-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_edge_list [hPre_edge_list : Cert.Pre_edge_list.Facts] (m : (ℓ : Loc Cert.KernelIdeal.nD Cert.KernelIdeal.τ Cert.KernelIdeal.sig) → Buf (Elt Ideal) ℓ) : Prop :=
  ∀ c : Dev Cert.KernelIdeal.nD,
    (Cert.Pre_edge_list.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_edge_list.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edge_list [hPre_edge_list : Cert.Pre_edge_list.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edge_list.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_edge_list.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_edge_list [hKernelIdeal : Cert.KernelIdeal.Facts] [hPre_edge_list : Cert.Pre_edge_list.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_edge_list m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_edge_list [hReferenceIdeal : Cert.ReferenceIdeal.Facts] [hPre_edge_list : Cert.Pre_edge_list.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edge_list m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_edge_list [hKernelIdeal : Cert.KernelIdeal.Facts] [hReferenceIdeal : Cert.ReferenceIdeal.Facts] [hPre_edge_list : Cert.Pre_edge_list.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_edge_list m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts) (hPre_edge_list : Cert.Pre_edge_list.Facts),
    quiescent_Kernel (hKernel := hKernel) (hPre_in_range := hPre_in_range)
    ∧ quiescent_KernelIdeal (hKernelIdeal := hKernelIdeal) (hPre_in_range := hPre_in_range)
    ∧ quiescent_KernelIdeal_pre_edge_list (hKernelIdeal := hKernelIdeal) (hPre_edge_list := hPre_edge_list)
    ∧ quiescent_ReferenceIdeal (hReferenceIdeal := hReferenceIdeal)
    ∧ quiescent_ReferenceIdeal_pre_edge_list (hReferenceIdeal := hReferenceIdeal) (hPre_edge_list := hPre_edge_list)
    ∧ preserves_Kernel_KernelIdeal
    ∧ algebraic_KernelIdeal_ReferenceIdeal_pre_edge_list (hKernelIdeal := hKernelIdeal) (hReferenceIdeal := hReferenceIdeal) (hPre_edge_list := hPre_edge_list)
-- ==== Pre_edge_list.lean ====
abbrev S22x1000 : Shape := ⟨2, ![22, 1000]⟩
abbrev S256x1000 : Shape := ⟨2, ![256, 1000]⟩
abbrev S256 : Shape := ⟨1, ![256]⟩
abbrev S64x256 : Shape := ⟨2, ![64, 256]⟩
abbrev S64 : Shape := ⟨1, ![64]⟩
abbrev S2x144 : Shape := ⟨2, ![2, 144]⟩
abbrev S1x144 : Shape := ⟨2, ![1, 144]⟩
abbrev S144 : Shape := ⟨1, ![144]⟩
abbrev S_ : Shape := ⟨0, ![]⟩
abbrev S144x144 : Shape := ⟨2, ![144, 144]⟩
abbrev S144x1 : Shape := ⟨2, ![144, 1]⟩

class Facts : Prop where
  slices_S2x144_S1x144_0_0 : S2x144.Slices ![0, 0] S1x144
  shapeCasts_S1x144_S144 : S1x144.ShapeCasts S144
  bcast_S_S144 : S_.BroadcastsInDim S144 (![] : Fin 0 → Fin S144.rank)
  slices_S2x144_S1x144_1_0 : S2x144.Slices ![1, 0] S1x144
  bcast_S_S2x144 : S_.BroadcastsInDim S2x144 (![] : Fin 0 → Fin S2x144.rank)
  bcast_S144_S144x1_0 : S144.BroadcastsInDim S144x1 (![0] : Fin 1 → Fin S144x1.rank)
  bcast_S144_S1x144_1 : S144.BroadcastsInDim S1x144 (![1] : Fin 1 → Fin S1x144.rank)
  bcast_S144x1_S144x144_0_1 : S144x1.BroadcastsInDim S144x144 (![0, 1] : Fin 2 → Fin S144x144.rank)
  bcast_S1x144_S144x144_0_1 : S1x144.BroadcastsInDim S144x144 (![0, 1] : Fin 2 → Fin S144x144.rank)

variable [Facts]

def fn {F : FTy → Type} [FloatOps F] (main_arg0 : FVec F S22x1000 .f32) (main_arg1 : FVec F S256x1000 .f32) (main_arg2 : FVec F S256 .f32) (main_arg3 : FVec F S64x256 .f32) (main_arg4 : FVec F S64 .f32) (main_arg5 : IVec S2x144 32) : IVec S2x144 1 × IVec S144x144 1 :=
  let main_v0 : IVec S1x144 32 := (extractStridedSlice S1x144 ![0, 0] · slices_S2x144_S1x144_0_0) main_arg5
  let main_v1 : IVec S144 32 := shapeCast S144 main_v0 shapeCasts_S1x144_S144
  let main_c : IVec S_ 32 := constantI S_ 32 22#32
  let main_v2 : IVec S144 32 := broadcastInDim S144 ![] bcast_S_S144 main_c
  let main_v3 : IVec S144 32 := muli main_v1 main_v2
  let main_v4 : IVec S1x144 32 := (extractStridedSlice S1x144 ![1, 0] · slices_S2x144_S1x144_1_0) main_arg5
  let main_v5 : IVec S144 32 := shapeCast S144 main_v4 shapeCasts_S1x144_S144
  let main_v6 : IVec S144 32 := addi main_v3 main_v5
  let main_v7 : IVec S144x144 32 := iotaInDim S144x144 32 0
  let main_v8 : IVec S144x144 32 := iotaInDim S144x144 32 1
  let main_c_0 : IVec S_ 32 := constantI S_ 32 0#32
  let main_v9 : IVec S2x144 32 := broadcastInDim S2x144 ![] bcast_S_S2x144 main_c_0
  let main_v10 : IVec S2x144 1 := cmpi .sge main_arg5 main_v9
  let main_c_1 : IVec S_ 32 := constantI S_ 32 22#32
  let main_v11 : IVec S2x144 32 := broadcastInDim S2x144 ![] bcast_S_S2x144 main_c_1
  let main_v12 : IVec S2x144 1 := cmpi .slt main_arg5 main_v11
  let main_v13 : IVec S2x144 1 := andi main_v10 main_v12
  let main_v14 : IVec S144x144 1 := cmpi .eq main_v7 main_v8
  let main_v15 : IVec S144x1 32 := broadcastInDim S144x1 ![0] bcast_S144_S144x1_0 main_v6
  let main_v16 : IVec S1x144 32 := broadcastInDim S1x144 ![1] bcast_S144_S1x144_1 main_v6
  let main_v17 : IVec S144x144 32 := broadcastInDim S144x144 ![0, 1] bcast_S144x1_S144x144_0_1 main_v15
  let main_v18 : IVec S144x144 32 := broadcastInDim S144x144 ![0, 1] bcast_S1x144_S144x144_0_1 main_v16
  let main_v19 : IVec S144x144 1 := cmpi .ne main_v17 main_v18
  let main_v20 : IVec S144x144 1 := ori main_v14 main_v19
  (main_v13, main_v20)
-- ==== Pre_in_range.lean ====
abbrev S22x1000 : Shape := ⟨2, ![22, 1000]⟩
abbrev S256x1000 : Shape := ⟨2, ![256, 1000]⟩
abbrev S256 : Shape := ⟨1, ![256]⟩
abbrev S64x256 : Shape := ⟨2, ![64, 256]⟩
abbrev S64 : Shape := ⟨1, ![64]⟩
abbrev S2x144 : Shape := ⟨2, ![2, 144]⟩
abbrev S_ : Shape := ⟨0, ![]⟩

class Facts : Prop where
  bcast_S_S2x144 : S_.BroadcastsInDim S2x144 (![] : Fin 0 → Fin S2x144.rank)

variable [Facts]

def fn {F : FTy → Type} [FloatOps F] (main_arg0 : FVec F S22x1000 .f32) (main_arg1 : FVec F S256x1000 .f32) (main_arg2 : FVec F S256 .f32) (main_arg3 : FVec F S64x256 .f32) (main_arg4 : FVec F S64 .f32) (main_arg5 : IVec S2x144 32) : IVec S2x144 1 :=
  let main_c : IVec S_ 32 := constantI S_ 32 0#32
  let main_v0 : IVec S2x144 32 := broadcastInDim S2x144 ![] bcast_S_S2x144 main_c
  let main_v1 : IVec S2x144 1 := cmpi .sge main_arg5 main_v0
  let main_c_0 : IVec S_ 32 := constantI S_ 32 22#32
  let main_v2 : IVec S2x144 32 := broadcastInDim S2x144 ![] bcast_S_S2x144 main_c_0
  let main_v3 : IVec S2x144 1 := cmpi .slt main_arg5 main_v2
  let main_v4 : IVec S2x144 1 := andi main_v1 main_v3
  main_v4
-- ==== Kernel.lean ====
abbrev S22x1000 : Shape := ⟨2, ![22, 1000]⟩
abbrev S256x1000 : Shape := ⟨2, ![256, 1000]⟩
abbrev S256 : Shape := ⟨1, ![256]⟩
abbrev S64x256 : Shape := ⟨2, ![64, 256]⟩
abbrev S64 : Shape := ⟨1, ![64]⟩
abbrev S2x144 : Shape := ⟨2, ![2, 144]⟩
abbrev S22x22 : Shape := ⟨2, ![22, 22]⟩
abbrev S_ : Shape := ⟨0, ![]⟩
abbrev S1x1 : Shape := ⟨2, ![1, 1]⟩
abbrev S1x256 : Shape := ⟨2, ![1, 256]⟩
abbrev S1x64 : Shape := ⟨2, ![1, 64]⟩
abbrev S22x64 : Shape := ⟨2, ![22, 64]⟩
abbrev S1000 : Shape := ⟨1, ![1000]⟩
abbrev S1x1000 : Shape := ⟨2, ![1, 1000]⟩
abbrev S22x256 : Shape := ⟨2, ![22, 256]⟩
abbrev S22 : Shape := ⟨1, ![22]⟩
abbrev S22x1 : Shape := ⟨2, ![22, 1]⟩
abbrev S64x1 : Shape := ⟨2, ![64, 1]⟩

abbrev nBuf : Table → Nat
  | .hbm => 10
  | .local .tc .vmem => 7
  | .local .scScalar .smem => 2
  | _ => 0

abbrev bufTy : (tb : Table) → Fin (nBuf tb) → BufTy
  | .hbm, ⟨0, _⟩ => ⟨S22x1000, .f32⟩
  | .hbm, ⟨1, _⟩ => ⟨S256x1000, .f32⟩
  | .hbm, ⟨2, _⟩ => ⟨S256, .f32⟩
  | .hbm, ⟨3, _⟩ => ⟨S64x256, .f32⟩
  | .hbm, ⟨4, _⟩ => ⟨S64, .f32⟩
  | .hbm, ⟨5, _⟩ => ⟨S2x144, .i32⟩
  | .hbm, ⟨6, _⟩ => ⟨S22x22, .f32⟩
  | .hbm, ⟨7, _⟩ => ⟨S1x256, .f32⟩
  | .hbm, ⟨8, _⟩ => ⟨S1x64, .f32⟩
  | .hbm, ⟨9, _⟩ => ⟨S22x64, .f32⟩
  | .local .tc .vmem, ⟨0, _⟩ => ⟨S22x22, .f32⟩
  | .local .tc .vmem, ⟨1, _⟩ => ⟨S22x1000, .f32⟩
  | .local .tc .vmem, ⟨2, _⟩ => ⟨S256x1000, .f32⟩
  | .local .tc .vmem, ⟨3, _⟩ => ⟨S1x256, .f32⟩
  | .local .tc .vmem, ⟨4, _⟩ => ⟨S64x256, .f32⟩
  | .local .tc .vmem, ⟨5, _⟩ => ⟨S1x64, .f32⟩
  | .local .tc .vmem, ⟨6, _⟩ => ⟨S22x64, .f32⟩
  | .local .scScalar .smem, ⟨0, _⟩ => ⟨S2x144, .i32⟩
  | .local .scScalar .smem, ⟨1, _⟩ => ⟨S22x22, .f32⟩
  | _, _ => ⟨S22x1000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_arg5_scs : Ref sig .scScalar := ⟨.hbm, 5, rfl⟩
abbrev main_v0_scs : Ref sig .scScalar := ⟨.hbm, 6, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc0_scratch0 : Ref sig .scScalar := ⟨.smem, 0, rfl⟩
abbrev cc0_scratch1 : Ref sig .scScalar := ⟨.smem, 1, rfl⟩
abbrev cc1_sem0_0 : DmaSem sig := 2
abbrev cc1_sem1_0 : DmaSem sig := 3
abbrev cc1_sem2_0 : DmaSem sig := 4
abbrev cc1_sem3_0 : DmaSem sig := 5
abbrev cc1_sem4_0 : DmaSem sig := 6
abbrev cc1_sem5_0 : DmaSem sig := 7
abbrev cc1_sem6_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_1 : BitVec 32 := 0#32
  let c22_i32 : BitVec 32 := 22#32
  let v3 : BitVec 32 := Scalar.addi c0_i32_1 c22_i32
  let c1_i32 : BitVec 32 := 1#32
  ⟨c0_i32_1, v3, c1_i32⟩
@[reducible] def k0_t2_loop : Scf.Loop 32 :=
  let c0_i32_6 : BitVec 32 := 0#32
  let c22_i32_7 : BitVec 32 := 22#32
  let v5 : BitVec 32 := Scalar.addi c0_i32_6 c22_i32_7
  let c1_i32_8 : BitVec 32 := 1#32
  ⟨c0_i32_6, v5, c1_i32_8⟩
def k0_off1 (k0_t1 : Fin k0_t1_loop.trips) (k0_t2 : Fin k0_t2_loop.trips) : Fin 2 → Nat :=
  let c0_i32_1 : BitVec 32 := 0#32
  let c1_i32 : BitVec 32 := 1#32
  let arg5 : BitVec 32 := Scf.iv c0_i32_1 c1_i32 k0_t1
  let v6 : Index := Scalar.indexCast arg5
  let c0_i32_6 : BitVec 32 := 0#32
  let c1_i32_8 : BitVec 32 := 1#32
  let arg6 : BitVec 32 := Scf.iv c0_i32_6 c1_i32_8 k0_t2
  let v7 : Index := Scalar.indexCast arg6
  ![v6.toNat, v7.toNat]
@[reducible] def k0_t3_loop : Scf.Loop 32 :=
  let c0_i32_3 : BitVec 32 := 0#32
  let c144_i32 : BitVec 32 := 144#32
  let v4 : BitVec 32 := Scalar.addi c0_i32_3 c144_i32
  let c1_i32_4 : BitVec 32 := 1#32
  ⟨c0_i32_3, v4, c1_i32_4⟩
def k0_off2 (k0_t3 : Fin k0_t3_loop.trips) : Fin 2 → Nat :=
  let c0_i32_6 : BitVec 32 := 0#32
  let v5 : Index := Scalar.indexCast c0_i32_6
  let c0_i32_3 : BitVec 32 := 0#32
  let c1_i32_4 : BitVec 32 := 1#32
  let arg5 : BitVec 32 := Scf.iv c0_i32_3 c1_i32_4 k0_t3
  let v6 : Index := Scalar.indexCast arg5
  ![0, v6.toNat]
def k0_off3 (k0_t3 : Fin k0_t3_loop.trips) : Fin 2 → Nat :=
  let c1_i32_7 : BitVec 32 := 1#32
  let v8 : Index := Scalar.indexCast c1_i32_7
  let c0_i32_3 : BitVec 32 := 0#32
  let c1_i32_4 : BitVec 32 := 1#32
  let arg5 : BitVec 32 := Scf.iv c0_i32_3 c1_i32_4 k0_t3
  let v9 : Index := Scalar.indexCast arg5
  ![1, v9.toNat]
def k0_off4 (v7 : BitVec 32) (v10 : BitVec 32) : Fin 2 → Nat :=
  let v11 : Index := Scalar.indexCast v10
  let v12 : Index := Scalar.indexCast v7
  ![v11.toNat, v12.toNat]

def k0_chk1 (i : grid0.Coords) (v7 : BitVec 32) (v10 : BitVec 32) : Prop :=
  (∀ (k0_h1 : k0_cond1 i = 1#1), ∀ a, (k0_off4 v7 v10) a + S1x1.size a ≤ S22x22.size a)
theorem k0_off4_inb : ∀ (i : grid0.Coords) (v7 : BitVec 32) (v10 : BitVec 32) (k0_hw1 : k0_chk1 i v7 v10), ∀ (k0_h1 : k0_cond1 i = 1#1), ∀ a, (k0_off4 v7 v10) a + S1x1.size a ≤ S22x22.size a := fun i v7 v10 k0_hw1 k0_h1 => k0_hw1 k0_h1

abbrev grid1 : Pipeline.Grid := .none

abbrev stage1_0 : Fin 1 → Memref sig .tc .vmem S22x22 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S22x1000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x1000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S64x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S22x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S22x1000 : Shape := ⟨2, ![22, 1000]⟩
abbrev S256x1000 : Shape := ⟨2, ![256, 1000]⟩
abbrev S256 : Shape := ⟨1, ![256]⟩
abbrev S64x256 : Shape := ⟨2, ![64, 256]⟩
abbrev S64 : Shape := ⟨1, ![64]⟩
abbrev S2x144 : Shape := ⟨2, ![2, 144]⟩
abbrev S_ : Shape := ⟨0, ![]⟩
abbrev S1000 : Shape := ⟨1, ![1000]⟩
abbrev S1x1000 : Shape := ⟨2, ![1, 1000]⟩
abbrev S1000x256 : Shape := ⟨2, ![1000, 256]⟩
abbrev S22x256 : Shape := ⟨2, ![22, 256]⟩
abbrev S1x144 : Shape := ⟨2, ![1, 144]⟩
abbrev S144 : Shape := ⟨1, ![144]⟩
abbrev S22 : Shape := ⟨1, ![22]⟩
abbrev S144x1 : Shape := ⟨2, ![144, 1]⟩
abbrev S144x256 : Shape := ⟨2, ![144, 256]⟩
abbrev S1x256 : Shape := ⟨2, ![1, 256]⟩
abbrev S64x1 : Shape := ⟨2, ![64, 1]⟩
abbrev S256x64 : Shape := ⟨2, ![256, 64]⟩
abbrev S22x64 : Shape := ⟨2, ![22, 64]⟩
abbrev S1x64 : Shape := ⟨2, ![1, 64]⟩

abbrev nBuf : Space → Nat
  | .hbm => 140
  | .vmem => 0
  | .smem => 0
  | _ => 0

abbrev hbmTy0_0 (i : Nat) : BufTy := match i % 128 with
  | 0 => ⟨S22x1000, .f32⟩
  | 1 => ⟨S256x1000, .f32⟩
  | 2 => ⟨S256, .f32⟩
  | 3 => ⟨S64x256, .f32⟩
  | 4 => ⟨S64, .f32⟩
  | 5 => ⟨S2x144, .i32⟩
  | 6 => ⟨S256x1000, .f32⟩
  | 7 => ⟨S_, .f32⟩
  | 8 => ⟨S1000, .f32⟩
  | 9 => ⟨S1000, .f32⟩
  | 10 => ⟨S_, .f32⟩
  | 11 => ⟨S1000, .f32⟩
  | 12 => ⟨S1000, .i1⟩
  | 13 => ⟨S_, .f32⟩
  | 14 => ⟨S1000, .f32⟩
  | 15 => ⟨S1000, .f32⟩
  | 16 => ⟨S_, .f32⟩
  | 17 => ⟨S1000, .f32⟩
  | 18 => ⟨S1000, .f32⟩
  | 19 => ⟨S_, .f32⟩
  | 20 => ⟨S_, .f32⟩
  | 21 => ⟨S1000, .f32⟩
  | 22 => ⟨S1000, .f32⟩
  | 23 => ⟨S1x1000, .f32⟩
  | 24 => ⟨S256x1000, .f32⟩
  | 25 => ⟨S256x1000, .f32⟩
  | 26 => ⟨S1000x256, .f32⟩
  | 27 => ⟨S22x256, .f32⟩
  | 28 => ⟨S1x144, .i32⟩
  | 29 => ⟨S144, .i32⟩
  | 30 => ⟨S1x144, .i32⟩
  | 31 => ⟨S144, .i32⟩
  | 32 => ⟨S_, .f32⟩
  | 33 => ⟨S22, .f32⟩
  | 34 => ⟨S_, .i32⟩
  | 35 => ⟨S144, .i32⟩
  | 36 => ⟨S144, .i1⟩
  | 37 => ⟨S_, .i32⟩
  | 38 => ⟨S144, .i32⟩
  | 39 => ⟨S144, .i32⟩
  | 40 => ⟨S144, .i32⟩
  | 41 => ⟨S144x1, .i32⟩
  | 42 => ⟨S_, .f32⟩
  | 43 => ⟨S144, .f32⟩
  | 44 => ⟨S22, .f32⟩
  | 45 => ⟨S_, .f32⟩
  | 46 => ⟨S22, .f32⟩
  | 47 => ⟨S22, .i1⟩
  | 48 => ⟨S_, .f32⟩
  | 49 => ⟨S22, .f32⟩
  | 50 => ⟨S22, .f32⟩
  | 51 => ⟨S_, .f32⟩
  | 52 => ⟨S_, .f32⟩
  | 53 => ⟨S22, .f32⟩
  | 54 => ⟨S22, .f32⟩
  | 55 => ⟨S_, .i32⟩
  | 56 => ⟨S144, .i32⟩
  | 57 => ⟨S144, .i1⟩
  | 58 => ⟨S_, .i32⟩
  | 59 => ⟨S144, .i32⟩
  | 60 => ⟨S144, .i32⟩
  | 61 => ⟨S144, .i32⟩
  | 62 => ⟨S144x1, .i32⟩
  | 63 => ⟨S144, .f32⟩
  | 64 => ⟨S_, .i32⟩
  | 65 => ⟨S144, .i32⟩
  | 66 => ⟨S144, .i1⟩
  | 67 => ⟨S_, .i32⟩
  | 68 => ⟨S144, .i32⟩
  | 69 => ⟨S144, .i32⟩
  | 70 => ⟨S144, .i32⟩
  | 71 => ⟨S144x1, .i32⟩
  | 72 => ⟨S144, .f32⟩
  | 73 => ⟨S144, .f32⟩
  | 74 => ⟨S_, .f32⟩
  | 75 => ⟨S22x256, .f32⟩
  | 76 => ⟨S144x1, .f32⟩
  | 77 => ⟨S_, .i32⟩
  | 78 => ⟨S144, .i32⟩
  | 79 => ⟨S144, .i1⟩
  | 80 => ⟨S_, .i32⟩
  | 81 => ⟨S144, .i32⟩
  | 82 => ⟨S144, .i32⟩
  | 83 => ⟨S144, .i32⟩
  | 84 => ⟨S144x1, .i32⟩
  | 85 => ⟨S144x256, .f32⟩
  | 86 => ⟨S144x256, .f32⟩
  | 87 => ⟨S144x256, .f32⟩
  | 88 => ⟨S_, .i32⟩
  | 89 => ⟨S144, .i32⟩
  | 90 => ⟨S144, .i1⟩
  | 91 => ⟨S_, .i32⟩
  | 92 => ⟨S144, .i32⟩
  | 93 => ⟨S144, .i32⟩
  | 94 => ⟨S144, .i32⟩
  | 95 => ⟨S144x1, .i32⟩
  | 96 => ⟨S22x256, .f32⟩
  | 97 => ⟨S1x256, .f32⟩
  | 98 => ⟨S22x256, .f32⟩
  | 99 => ⟨S22x256, .f32⟩
  | 100 => ⟨S_, .f32⟩
  | 101 => ⟨S22x256, .f32⟩
  | 102 => ⟨S22x256, .i1⟩
  | 103 => ⟨S_, .f32⟩
  | 104 => ⟨S22x256, .f32⟩
  | 105 => ⟨S22x256, .i1⟩
  | 106 => ⟨S_, .f32⟩
  | 107 => ⟨S_, .f32⟩
  | 108 => ⟨S22x256, .f32⟩
  | 109 => ⟨S22x256, .f32⟩
  | 110 => ⟨S22x256, .f32⟩
  | 111 => ⟨S_, .f32⟩
  | 112 => ⟨S22x256, .f32⟩
  | 113 => ⟨S22x256, .f32⟩
  | 114 => ⟨S22x256, .f32⟩
  | 115 => ⟨S64x256, .f32⟩
  | 116 => ⟨S_, .f32⟩
  | 117 => ⟨S64, .f32⟩
  | 118 => ⟨S64, .f32⟩
  | 119 => ⟨S_, .f32⟩
  | 120 => ⟨S64, .f32⟩
  | 121 => ⟨S64, .i1⟩
  | 122 => ⟨S_, .f32⟩
  | 123 => ⟨S64, .f32⟩
  | 124 => ⟨S64, .f32⟩
  | 125 => ⟨S_, .f32⟩
  | 126 => ⟨S64, .f32⟩
  | 127 => ⟨S64, .f32⟩
  | _ => ⟨S22x1000, .f32⟩

abbrev hbmTy0_1 (i : Nat) : BufTy := match i % 128 with
  | 0 => ⟨S_, .f32⟩
  | 1 => ⟨S_, .f32⟩
  | 2 => ⟨S64, .f32⟩
  | 3 => ⟨S64, .f32⟩
  | 4 => ⟨S64x1, .f32⟩
  | 5 => ⟨S64x256, .f32⟩
  | 6 => ⟨S64x256, .f32⟩
  | 7 => ⟨S256x64, .f32⟩
  | 8 => ⟨S22x64, .f32⟩
  | 9 => ⟨S1x64, .f32⟩
  | 10 => ⟨S22x64, .f32⟩
  | 11 => ⟨S22x64, .f32⟩
  | _ => ⟨S22x1000, .f32⟩

abbrev hbmTy (i : Nat) : BufTy := match i / 128 with
  | 0 => hbmTy0_0 i
  | 1 => hbmTy0_1 i
  | _ => ⟨S22x1000, .f32⟩

abbrev bufTy : (tb : Table) → Fin (tcTables nBuf tb) → BufTy
  | .hbm, ⟨i, _⟩ => hbmTy i
  | _, _ => ⟨S22x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_call1_v0 : Ref sig .tc := ⟨.hbm, 52, rfl⟩
abbrev main_call1_v1 : Ref sig .tc := ⟨.hbm, 53, rfl⟩
abbrev main_v32 : Ref sig .tc := ⟨.hbm, 54, rfl⟩
abbrev main_c_10 : Ref sig .tc := ⟨.hbm, 55, rfl⟩
abbrev main_v33 : Ref sig .tc := ⟨.hbm, 56, rfl⟩
abbrev main_v34 : Ref sig .tc := ⟨.hbm, 57, rfl⟩
abbrev main_c_11 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_12 : Ref sig .tc := ⟨.hbm, 64, rfl⟩
abbrev main_v40 : Ref sig .tc := ⟨.hbm, 65, rfl⟩
abbrev main_v41 : Ref sig .tc := ⟨.hbm, 66, rfl⟩
abbrev main_c_13 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_14 : Ref sig .tc := ⟨.hbm, 74, rfl⟩
abbrev main_v48 : Ref sig .tc := ⟨.hbm, 75, rfl⟩
abbrev main_v49 : Ref sig .tc := ⟨.hbm, 76, rfl⟩
abbrev main_c_15 : Ref sig .tc := ⟨.hbm, 77, rfl⟩
abbrev main_v50 : Ref sig .tc := ⟨.hbm, 78, rfl⟩
abbrev main_v51 : Ref sig .tc := ⟨.hbm, 79, rfl⟩
abbrev main_c_16 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_17 : Ref sig .tc := ⟨.hbm, 88, rfl⟩
abbrev main_v59 : Ref sig .tc := ⟨.hbm, 89, rfl⟩
abbrev main_v60 : Ref sig .tc := ⟨.hbm, 90, rfl⟩
abbrev main_c_18 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_call2_cst : Ref sig .tc := ⟨.hbm, 100, rfl⟩
abbrev main_call2_v0 : Ref sig .tc := ⟨.hbm, 101, rfl⟩
abbrev main_call2_v1 : Ref sig .tc := ⟨.hbm, 102, rfl⟩
abbrev main_call2_cst_0 : Ref sig .tc := ⟨.hbm, 103, rfl⟩
abbrev main_call2_v2 : Ref sig .tc := ⟨.hbm, 104, rfl⟩
abbrev main_call2_v3 : Ref sig .tc := ⟨.hbm, 105, rfl⟩
abbrev main_call2_cst_1 : Ref sig .tc := ⟨.hbm, 106, rfl⟩
abbrev main_call2_call0_v0 : Ref sig .tc := ⟨.hbm, 107, rfl⟩
abbrev main_call2_call0_v1 : Ref sig .tc := ⟨.hbm, 108, rfl⟩
abbrev main_call2_v4 : Ref sig .tc := ⟨.hbm, 109, rfl⟩
abbrev main_call2_v5 : Ref sig .tc := ⟨.hbm, 110, rfl⟩
abbrev main_call2_cst_2 : Ref sig .tc := ⟨.hbm, 111, rfl⟩
abbrev main_call2_v6 : Ref sig .tc := ⟨.hbm, 112, rfl⟩
abbrev main_call2_v7 : Ref sig .tc := ⟨.hbm, 113, rfl⟩
abbrev main_v69 : Ref sig .tc := ⟨.hbm, 114, rfl⟩
abbrev main_v70 : Ref sig .tc := ⟨.hbm, 115, rfl⟩
abbrev main_cst_19 : Ref sig .tc := ⟨.hbm, 116, rfl⟩
abbrev main_v71 : Ref sig .tc := ⟨.hbm, 117, rfl⟩
abbrev main_v72 : Ref sig .tc := ⟨.hbm, 118, rfl⟩
abbrev main_cst_20 : Ref sig .tc := ⟨.hbm, 119, rfl⟩
abbrev main_v73 : Ref sig .tc := ⟨.hbm, 120, rfl⟩
abbrev main_v74 : Ref sig .tc := ⟨.hbm, 121, rfl⟩
abbrev main_cst_21 : Ref sig .tc := ⟨.hbm, 122, rfl⟩
abbrev main_v75 : Ref sig .tc := ⟨.hbm, 123, rfl⟩
abbrev main_v76 : Ref sig .tc := ⟨.hbm, 124, rfl⟩
abbrev main_cst_22 : Ref sig .tc := ⟨.hbm, 125, rfl⟩
abbrev main_v77 : Ref sig .tc := ⟨.hbm, 126, rfl⟩
abbrev main_v78 : Ref sig .tc := ⟨.hbm, 127, rfl⟩
abbrev main_cst_23 : Ref sig .tc := ⟨.hbm, 128, rfl⟩
abbrev main_call3_v0 : Ref sig .tc := ⟨.hbm, 129, rfl⟩
abbrev main_call3_v1 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩

abbrev nD : Nat := 1
abbrev τ : Topo := Topo.v7x

variable {F : FTy → Type} [FloatOps F]
-- ==== Proof.Adj.lean ====
/-
  The SparseCore call: the scalar subcore reads the edge list into its scalar memory, fills a 22 x 22 array there with zeros,
  stores 1.0 at (target, source) for each of the 144 edges in turn, and writes the array out. Stated over any float values,
  with what the array holds: after `k` edges it is `adjN E k`, so what reaches the result is `adj E`.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.StableHlo.Run
public import Idealize.ShloMosaic.Lib.Pipeline.Kit
public import Idealize.ShloMosaic.Lib.Pointwise
public import Idealize.ShloMosaic.Lib.WritesUnit
public import Idealize.ShloMosaic.Lib.Tactic

@[expose] public section

noncomputable section

namespace Cert.Proof.Adj

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱P : Variants := 𝒱₀.lift
abbrev v₀ : (𝒱P).V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds library, the left factor. -/
abbrev EH : Emb UH (MT nD τ sig (HIx 1) (Elt F) ℕ UU ℕ) := embL

/-! ## What the array holds -/

/-- The array after the first `k` edges: one at every (target, source) among them, zero elsewhere. -/
def adjN [FloatOps F] (E : S2x144.Idx → BitVec 32) (k : ℕ) : S22x22.Idx → F .f32 := fun x =>
  if ∃ e : Fin 144, e.val < k ∧ (E (ix2 0 e)).toNat = (x 1).val ∧ (E (ix2 1 e)).toNat = (x 0).val then Scalar.ofBits .f32 0x3F800000#32
  else Scalar.ofBits .f32 0x00000000#32

/-- The array the call leaves. -/
abbrev adj [FloatOps F] (E : S2x144.Idx → BitVec 32) : S22x22.Idx → F .f32 := adjN E 144

theorem adjN_zero [FloatOps F] (E : S2x144.Idx → BitVec 32) (x : S22x22.Idx) : adjN (F := F) E 0 x = Scalar.ofBits .f32 0x00000000#32 :=
  if_neg fun ⟨_, h, _⟩ => Nat.not_lt_zero _ h

/-- One more edge: a one at its place, the rest as before. -/
theorem adjN_succ [FloatOps F] (E : S2x144.Idx → BitVec 32) (e : Fin 144) (x : S22x22.Idx) :
    adjN (F := F) E (e.val + 1) x
      = if (E (ix2 1 e)).toNat = (x 0).val ∧ (E (ix2 0 e)).toNat = (x 1).val then Scalar.ofBits .f32 0x3F800000#32 else adjN E e.val x := by
  unfold adjN
  by_cases h : (E (ix2 1 e)).toNat = (x 0).val ∧ (E (ix2 0 e)).toNat = (x 1).val
  · rw [if_pos h, if_pos ⟨e, Nat.lt_succ_self _, h.2, h.1⟩]
  · rw [if_neg h]
    congr 1
    refine propext ⟨fun ⟨e', he, h1, h2⟩ => ?_, fun ⟨e', he, h1, h2⟩ => ⟨e', Nat.lt_succ_of_lt he, h1, h2⟩⟩
    rcases Nat.lt_succ_iff_lt_or_eq.mp he with he | he
    · exact ⟨e', he, h1, h2⟩
    · exact absurd (by rw [Fin.ext he] at h1 h2; exact ⟨h2, h1⟩) h

/-- A store of one element, read back: the element it names holds the word, every other one what it held. -/
theorem read_store {κ : Kind} {sp : Space} (v : View sig κ sp S22x22 .f32) (f : v.ty.Contents (Elt F)) {off : Fin 2 → ℕ}
    (inb : ∀ a, off a + S1x1.size a ≤ S22x22.size a) (p : F .f32) (x : S22x22.Idx) :
    View.read (Elt F) v (v.writes (Elt F) f [⟨Rect.unit (s := S22x22) off S1x1.size inb, fun _ => p⟩]) x
      = if off 0 = (x 0).val ∧ off 1 = (x 1).val then p else View.read (Elt F) v f x := by
  by_cases h : off 0 = (x 0).val ∧ off 1 = (x 1).val
  · rw [if_pos h]
    exact View.read_writes_cons_unit_of_mem v f inb (fun _ => p) [] x (fun a => ⟨0, by fin_cases a <;> exact Nat.one_pos⟩) rfl
      (Fin.forall_fin_two.mpr ⟨by rw [h.1]; rfl, by rw [h.2]; rfl⟩)
  · rw [if_neg h]
    rcases not_and_or.mp h with h | h
    · exact View.read_writes_cons_unit_of_not_mem v f inb (fun _ => p) [] x rfl 0 (by show _ ∨ off 0 + 1 ≤ _; omega)
    · exact View.read_writes_cons_unit_of_not_mem v f inb (fun _ => p) [] x rfl 1 (by show _ ∨ off 1 + 1 ≤ _; omega)

/-- A small word as an index. -/
theorem toNat_indexCast {w : BitVec 32} (_ : w.toNat < 22) : (Scalar.indexCast w : Index).toNat = w.toNat := rfl

/-- A load of one element of the edge list. -/
theorem readAt_one {κ : Kind} {sp : Space} (v : View sig κ sp S2x144 .i32) (f : v.ty.Contents (Elt F)) (a : Fin 2) (b : Fin 144) {off : Fin 2 → ℕ}
    (inb : ∀ a, off a + S1x1.size a ≤ S2x144.size a) (h0 : off 0 = a.val) (h1 : off 1 = b.val) (x) :
    View.readAt (Elt F) v (Rect.unit (s := S2x144) off S1x1.size inb).toLoadRect f x = View.read (Elt F) v f (ix2 a b) := by
  rw [View.readAt_apply]
  congr 1; funext i; apply Fin.ext
  have hx : ∀ i, (x i).val = 0 := fun i => by have := (x i).isLt; revert this; fin_cases i <;> (intro this; exact Nat.lt_one_iff.mp this)
  fin_cases i
  · show off 0 + 1 * (x 0).val = a.val; rw [hx, h0]; rfl
  · show off 1 + 1 * (x 1).val = b.val; rw [hx, h1]; rfl

/-! ## The launch memory and the buffers -/

variable (m : (ℓ : Loc nD τ sig) → Buf (Elt F) ℓ) (ρ : Dev nD → PrngReg)

/-- The operands of the SparseCore call as its body names them: the edge list, the array, their two scratch copies. -/
abbrev eW : Memref Cert.KernelIdeal.sig Kind.scScalar Space.hbm Cert.KernelIdeal.S2x144 EltTy.i32 := Memref.whole Cert.KernelIdeal.main_arg5_scs
abbrev aW : Memref Cert.KernelIdeal.sig Kind.scScalar Space.hbm Cert.KernelIdeal.S22x22 EltTy.f32 := Memref.whole Cert.KernelIdeal.main_v0_scs
abbrev esW : Memref Cert.KernelIdeal.sig Kind.scScalar Space.smem Cert.KernelIdeal.S2x144 EltTy.i32 := Memref.whole Cert.KernelIdeal.cc0_scratch0
abbrev asW : Memref Cert.KernelIdeal.sig Kind.scScalar Space.smem Cert.KernelIdeal.S22x22 EltTy.f32 := Memref.whole Cert.KernelIdeal.cc0_scratch1
abbrev eLoc (d : Dev nD) : Loc nD τ sig := (SparseCore.T d).loc main_arg5
abbrev aLoc (d : Dev nD) : Loc nD τ sig := (SparseCore.T d).loc main_v0

/-- The edge list of device `d`, as an array of words. -/
abbrev edges (d : Dev nD) : S2x144.Idx → BitVec 32 := m (eLoc d)

variable [FloatOps F]

abbrev ePts (d : Dev nD) : sProp 𝕄 := eLoc d ↦{fullShare} m (eLoc d)
abbrev aPts (d : Dev nD) (f : Buf (Elt F) (aLoc d)) : sProp 𝕄 := aLoc d ↦{fullShare} f

/-- What the call hands the sequencer: the edge list at its launch contents, the result's array at anything. -/
abbrev give (d : Dev nD) : sProp 𝕄 := iprop(ePts m d ∗ ∃ f, aPts d f)
/-- What it takes back: the edge list as it was, the result's array at `adj`. -/
abbrev take (d : Dev nD) : sProp 𝕄 := iprop(ePts m d ∗ aPts d (adj (edges m d)))

/-- The call's payloads. -/
def P : (K (F := F)).Pay (nD := nD) (Val := Elt F) (Name := ℕ) (U := UU) where
  st := fun _ d _ => give m d
  dn := fun _ d _ => take m d
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The kernel's body -/

section Body

variable (d : Dev nD)

def coordsS (c : Fin (grid0.bound 0)) : grid0.Coords := fun | 0 => c | ⟨_ + 1, h⟩ => absurd h (Nat.not_lt.2 (Nat.le_add_left _ _))

abbrev cell0 (c : Fin τ.nSC) : GSem nD τ sig := (S d c, .dma cc0_scoped0.sem)
abbrev cell1 (c : Fin τ.nSC) : GSem nD τ sig := (S d c, .dma cc0_scoped1.sem)

omit [FloatOps F] in
theorem ownSems0_S (c : Fin τ.nSC) :
    (ownSems0 (S d c) : sProp 𝕄) = iprop(semVal (cell0 d c) 0 ∗ semVal (cell1 d c) 0
      ∗ bigSep (((ownCells (S d c)).erase (cell0 d c)).erase (cell1 d c)) fun g => semVal g 0) := by
  unfold SparseCore.Cfg.ownSems0
  rw [SparseCore.bigSep_erase' ((mem_ownCells (g := cell0 d c)).mpr ⟨rfl, by show (SemLoc.dma cc0_scoped0.sem : SemLoc sig).isScoped .scScalar = true; decide⟩),
    SparseCore.bigSep_erase' (Finset.mem_erase.mpr ⟨fun h => absurd (congrArg Prod.snd h : (SemLoc.dma cc0_scoped1.sem : SemLoc sig) = SemLoc.dma cc0_scoped0.sem) (by decide),
      (mem_ownCells (g := cell1 d c)).mpr ⟨rfl, by show (SemLoc.dma cc0_scoped1.sem : SemLoc sig).isScoped .scScalar = true; decide⟩⟩)]

abbrev sE (c : Fin τ.nSC) : DevRef τ sig := Proc.devRef (.scScalar c) cc0_scratch0
abbrev sA (c : Fin τ.nSC) : DevRef τ sig := Proc.devRef (.scScalar c) cc0_scratch1

omit [FloatOps F] in
theorem ownBufs_S (c : Fin τ.nSC) :
    (ownBufs (S d c) : sProp 𝕄) = iprop((∃ f, ((d, sE c) : Loc nD τ sig) ↦{fullShare} f) ∗ (∃ f, ((d, sA c) : Loc nD τ sig) ↦{fullShare} f)
      ∗ bigSep (((ownRefs (.scScalar c)).erase (sE c)).erase (sA c)) fun b => iprop(∃ f, ((d, b) : Loc nD τ sig) ↦{fullShare} f)) := by
  unfold SparseCore.Cfg.ownBufs
  rw [SparseCore.bigSep_erase' (mem_ownRefs.mpr (show (sE c).owner.home = .scScalar c from rfl)),
    SparseCore.bigSep_erase' (Finset.mem_erase.mpr ⟨by revert c; decide, mem_ownRefs.mpr (show (sA c).owner.home = .scScalar c from rfl)⟩)]

omit [FloatOps F] in
theorem pts_e (c : Fin τ.nSC) (f : Buf (Elt F) (eLoc d)) : ((eW).view.loc (S d c) ↦{fullShare} f : sProp 𝕄) = eLoc d ↦{fullShare} f := by
  simp only [Memref.view_whole, View.set_whole]
omit [FloatOps F] in
theorem pts_a (c : Fin τ.nSC) (f : Buf (Elt F) (aLoc d)) : ((aW).view.loc (S d c) ↦{fullShare} f : sProp 𝕄) = aLoc d ↦{fullShare} f := by
  simp only [Memref.view_whole, View.set_whole]

abbrev S0 (h : 0 < grid0.bound 0) : Thread nD τ := S d ((⟨0, h⟩ : Fin (grid0.bound 0)).castLE hcore0)

/-- Zeroing, before row `k`: the rows above are zero. -/
def inv1 (h : 0 < grid0.bound 0) (k : Nat) (_ : PUnit) : sProp 𝕄 :=
  iprop(∃ f, ⌜∀ x : S22x22.Idx, (x 0).val < k → View.read (Elt F) (asW).view f x = Scalar.ofBits .f32 0x00000000#32⌝ ∗ (asW).view.loc (S0 d h) ↦{fullShare} f)

/-- Zeroing row `r`, before column `k`: the rows above are zero, and so is row `r` to the left of `k`. -/
def inv2 (h : 0 < grid0.bound 0) (r : Nat) (k : Nat) (_ : PUnit) : sProp 𝕄 :=
  iprop(∃ f, ⌜∀ x : S22x22.Idx, (x 0).val < r ∨ ((x 0).val = r ∧ (x 1).val < k) → View.read (Elt F) (asW).view f x = Scalar.ofBits .f32 0x00000000#32⌝
    ∗ (asW).view.loc (S0 d h) ↦{fullShare} f)

/-- The edges, before edge `k`: the array holds the first `k`. -/
def inv3 (h : 0 < grid0.bound 0) (k : Nat) (_ : PUnit) : sProp 𝕄 :=
  iprop((∃ f, ⌜View.read (Elt F) (esW).view f = edges m d⌝ ∗ (esW).view.loc (S0 d h) ↦{fullShare} f)
    ∗ (∃ f, ⌜View.read (Elt F) (asW).view f = adjN (edges m d) k⌝ ∗ (asW).view.loc (S0 d h) ↦{fullShare} f))

theorem body (h : 0 < grid0.bound 0) (hE : ∀ x, (edges m d x).toNat < 22) (O : CellTallies nD τ sig (HIx 1)) (W : Waits sig (HIx 1)) (hO : ∀ g, O g none = 0) :
    iprop(levAts (K (F := F)).L (K (F := F)).lev ∗ emp ∗ give m d
        ∗ scopedBufs (S0 d h) ∗ scopedSems0 (S0 d h) ∗ owes (S0 d h) O W)
      ⊢ wp frame (wpE (defs₀ (F := F)) 𝒱₀ (S0 d h) none) Set.univ
          (cc0__sc_adj_body (coordsS ⟨0, h⟩) eW (Memref.isWhole_whole _) aW (Memref.isWhole_whole _) esW (Memref.isWhole_whole _) asW (Memref.isWhole_whole _) cc0_scoped0 cc0_scoped1)
          fun _ => iprop(take m d ∗ scopedBufs (S0 d h) ∗ scopedSems0 (S0 d h) ∗ ∃ W', ⌜∀ p ∈ W', p ∈ W ∨ p.2 = none⌝ ∗ owes (S0 d h) O W') := by
  have k0_h1 : k0_cond1 (coordsS ⟨0, h⟩) = 1#1 := by decide +revert
  simp only [cc0__sc_adj_body_eq_skeleton]; unfold cc0__sc_adj_body_skel
  iintro ⟨#Hlv, -, ⟨He, %fa, Ha⟩, Hsb, Hss, HO⟩
  ihave Hss' := (SparseCore.Cfg.scopedSems0_S_elim (Val := Elt F) d (((⟨0, h⟩ : Fin (grid0.bound 0))).castLE hcore0)) $$ Hss
  icases Hss' with ⟨Hown, Hsubs⟩
  ihave Hown' := (Entails.of_eq (ownSems0_S (F := F) d (((⟨0, h⟩ : Fin (grid0.bound 0))).castLE hcore0))) $$ Hown
  icases Hown' with ⟨Hsem0, Hsem1, Hrest⟩
  ihave Hsb' := ((K (F := F)).scopedBufs_S_elim facts d (((⟨0, h⟩ : Fin (grid0.bound 0))).castLE hcore0)) $$ Hsb
  icases Hsb' with ⟨Hbo, Hbsubs⟩
  ihave Hbo' := (Entails.of_eq (ownBufs_S (F := F) d (((⟨0, h⟩ : Fin (grid0.bound 0))).castLE hcore0))) $$ Hbo
  icases Hbo' with ⟨⟨%fe, Hes⟩, ⟨%fs, Has⟩, Hbrest⟩
  ihave Hmw := ((K (F := F)).mayWaits_none (thr := S0 d h) hO) $$ Hlv
  ihave He' := (Entails.of_eq (pts_e (F := F) d (((⟨0, h⟩ : Fin (grid0.bound 0))).castLE hcore0) _).symm) $$ He
  ihave Ha' := (Entails.of_eq (pts_a (F := F) d (((⟨0, h⟩ : Fin (grid0.bound 0))).castLE hcore0) _).symm) $$ Ha
  ihave Hes' := (show (_ : sProp 𝕄) ⊢ ((esW).view.loc (S0 d h) ↦{fullShare} fe) from .rfl) $$ Hes
  ihave Has' := (show (_ : sProp 𝕄) ⊢ ((asW).view.loc (S0 d h) ↦{fullShare} fs) from .rfl) $$ Has
  sl_exec
  -- the zeros, row by row
  sl_for (inv1 d h) $$ [Has']
  case region =>
    intro r _
    unfold inv1
    iintro ⟨%f, %hf, Has⟩
    sl_exec
    sl_for (inv2 d h r.val) $$ [Has]
    case region =>
      intro c _
      unfold inv2
      iintro ⟨%f, %hf, Has⟩
      sl_exec
      sl_step
      iexists _; isplitr
      rotate_left
      · iexact Has
      ipureintro
      intro x hx
      rw [read_store, k0_off1_eq]
      split
      · rfl
      · next hn => exact hf x (by simp only [Matrix.cons_val_zero, Matrix.cons_val_one] at hn; omega)
    · unfold inv2
      iexists f; isplitr
      · ipureintro; intro x hx; exact hf x (by omega)
      · iexact Has
    iintro %_ HI
    unfold inv2
    icases HI with ⟨%f', %hf', Has⟩
    sl_exec
    sl_step
    iexists f'; isplitr
    · ipureintro; intro x hx
      refine hf' x ?_
      have h22 : (x 1).val < 22 := (x 1).isLt
      have ht : Scf.trips k0_t2_loop.lb k0_t2_loop.ub k0_t2_loop.st = 22 := by decide
      omega
    · iexact Has
  · unfold inv1
    iexists fs; isplitr
    · ipureintro; intro x hx; exact absurd hx (Nat.not_lt_zero _)
    · iexact Has'
  iintro %_ HI
  unfold inv1
  icases HI with ⟨%f1, %hf1, Has⟩
  sl_exec
  -- the edges
  sl_for (inv3 m d h) $$ [Has Hes']
  case region =>
    intro e _
    unfold inv3
    iintro ⟨⟨%fe, %hfe, Hes⟩, %f, %hf, Has⟩
    sl_exec
    have ht : Scf.trips k0_t3_loop.lb k0_t3_loop.ub k0_t3_loop.st = 144 := by decide
    have hr1 : body.sl.r_1 h k0_h1 e fe = edges m d (ix2 0 (Fin.cast ht e)) := by
      rw [← hfe]
      unfold body.sl.r_1
      exact readAt_one (F := F) (esW).view fe 0 (Fin.cast ht e) _ (by rw [k0_off2_eq]; rfl) (by rw [k0_off2_eq]; rfl) _
    have hr2 : body.sl.r_2 h k0_h1 e fe = edges m d (ix2 1 (Fin.cast ht e)) := by
      rw [← hfe]
      unfold body.sl.r_2
      exact readAt_one (F := F) (esW).view fe 1 (Fin.cast ht e) _ (by rw [k0_off3_eq]; rfl) (by rw [k0_off3_eq]; rfl) _
    rw [hr1, hr2]
    have hchk : k0_chk1 (coordsS ⟨0, h⟩) (edges m d (ix2 0 (Fin.cast ht e))) (edges m d (ix2 1 (Fin.cast ht e))) := by
      intro _ a
      have h0 := hE (ix2 0 (Fin.cast ht e))
      have h1 := hE (ix2 1 (Fin.cast ht e))
      fin_cases a
      · show (Scalar.indexCast _).toNat + 1 ≤ 22
        rw [toNat_indexCast h1]; exact h1
      · show (Scalar.indexCast _).toNat + 1 ≤ 22
        rw [toNat_indexCast h0]; exact h0
    sl_exec
    sl_step
    isplitl [Hes]
    · iexists fe; isplitr
      · ipureintro; exact hfe
      · iexact Hes
    iexists _; isplitr
    rotate_left
    · iexact Has
    ipureintro
    funext x
    rw [read_store, hf, show e.val + 1 = (Fin.cast ht e).val + 1 from rfl, adjN_succ]
    have h0 := hE (ix2 0 (Fin.cast ht e))
    have h1 := hE (ix2 1 (Fin.cast ht e))
    rw [show k0_off4 (edges m d (ix2 0 (Fin.cast ht e))) (edges m d (ix2 1 (Fin.cast ht e))) 0 = (Scalar.indexCast (edges m d (ix2 1 (Fin.cast ht e)))).toNat from rfl,
      show k0_off4 (edges m d (ix2 0 (Fin.cast ht e))) (edges m d (ix2 1 (Fin.cast ht e))) 1 = (Scalar.indexCast (edges m d (ix2 0 (Fin.cast ht e)))).toNat from rfl,
      toNat_indexCast h0, toNat_indexCast h1]
    rfl
  · unfold inv3
    isplitl [Hes']
    · iexists _; isplitr
      rotate_left
      · iexact Hes'
      · ipureintro
        funext x
        rw [View.read_write_univ]
        unfold body.sl.dma0
        rfl
    iexists f1; isplitr
    · ipureintro; funext x
      rw [adjN_zero]
      refine hf1 x ?_
      have h22 : (x 0).val < 22 := (x 0).isLt
      have ht : Scf.trips k0_t1_loop.lb k0_t1_loop.ub k0_t1_loop.st = 22 := by decide
      omega
    · iexact Has
  iintro %_ HI
  unfold inv3
  icases HI with ⟨⟨%fe', %hfe', Hes⟩, %f3, %hf3, Has⟩
  sl_exec
  sl_step
  isplitl [He' Ha']
  · isplitl [He']
    · iapply (Entails.of_eq (pts_e (F := F) d _ _)); iexact He'
    · have hv : View.write (Elt F) (aW).view fa (body.sl.dma0_1 f3) Finset.univ = adj (edges m d) := by
        have ht : Scf.trips k0_t3_loop.lb k0_t3_loop.ub k0_t3_loop.st = 144 := by decide
        rw [ht] at hf3
        unfold adj
        rw [← hf3]
        unfold body.sl.dma0_1
        exact View.read_write_univ (v := (aW).view) fa (View.read (Elt F) (asW).view f3)
      rw [hv]
      iapply (Entails.of_eq (pts_a (F := F) d _ _)); iexact Ha'
  isplitl [Hes Has Hbrest Hbsubs]
  · iapply ((K (F := F)).scopedBufs_S_intro facts d _)
    isplitl [Hes Has Hbrest]
    · rw [ownBufs_S]
      isplitl [Hes]; · iexists _; iexact Hes
      isplitl [Has]; · iexists _; iexact Has
      iexact Hbrest
    · iexact Hbsubs
  isplitl [Hsem0 Hsem1 Hrest Hsubs]
  · iapply (SparseCore.Cfg.scopedSems0_S_intro (Val := Elt F) d _)
    isplitl [Hsem0 Hsem1 Hrest]
    · rw [ownSems0_S]
      isplitl [Hsem0]; · iexact Hsem0
      isplitl [Hsem1]; · iexact Hsem1
      iexact Hrest
    · iexact Hsubs
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    · exact .inl hp

end Body

/-! ## The launch theorem's obligation -/

theorem defs₀_scalar (c : Fin τ.nSC) :
    defs₀ (F := F) (.scScalar c) 0 ()
      = SparseCore.onCore hcore0 (fun c => cc0__sc_adj_body (coordsS c) eW (Memref.isWhole_whole _) aW (Memref.isWhole_whole _) esW (Memref.isWhole_whole _)
          asW (Memref.isWhole_whole _) cc0_scoped0 cc0_scoped1) ⟨⟩ c := rfl

omit [FloatOps F] in
/-- The waits the body adds are its own; the obligation lets them be the call's too. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The one sequencer of the call's mesh runs the body, given that every word of the edge list is below 22. -/
theorem scalarObl (hE : ∀ d x, (edges m d x).toNat < 22) : (K (F := F)).ScalarObl (D (F := F)) 𝒱P (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact (body m d h (hE d) O W hO).trans (wp_mono frame _ _ fun _ => obl_post)

end Cert.Proof.Adj

end
-- ==== Proof.Dense.lean ====
/-
  The TensorCore call: a pipeline of one point over seven whole arrays. Its body as a function on what the six input
  windows stage (`outv`), the pipeline's proof data over any contents at which the call is entered, and the call itself as
  a segment that may follow the SparseCore call: what the core has recorded of its waits stays below the level it must.
-/
module

public import proofs.«01_k».proof.Proof.Adj
public import Idealize.ShloMosaic.Lib.Pipeline.RegionArrays
public import Idealize.ShloMosaic.Lib.Pipeline.ValueKit
public import Idealize.ShloMosaic.Lib.VecWindow

@[expose] public section

noncomputable section

namespace Cert.Proof.Dense

open Cert.KernelIdeal Cert.KernelIdeal.Gen Cert.Proof.Adj

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-- The staging cells' rounds library: the middle factor. -/
abbrev EP : Emb UP (MT nD τ sig (HIx 1) (Elt F) ℕ UU ℕ) := (Emb.inl : Emb UP (UP × Counters)).trans embR

/-! ## The body -/

/-- What the body makes of its six inputs: the array, `x`, `W1`, `b1`, `W2`, `b2`. -/
def outv (a : S22x22.Idx → F .f32) (x : S22x1000.Idx → F .f32) (w1 : S256x1000.Idx → F .f32) (b1 : S1x256.Idx → F .f32)
    (w2 : S64x256.Idx → F .f32) (b2 : S1x64.Idx → F .f32) : S22x64.Idx → F .f32 :=
  k1_pay1 (k1_pay2 w1 x a b1) (k1_pay3 w1 x a b1) (k1_pay4 w1 x a b1) w2 b2

abbrev pl (c : Dev nD) (b : Ref sig .tc) (f : b.ty.Contents (Elt F)) : sProp 𝕄 := ((c : Thread nD τ).loc b) ↦{fullShare} f

theorem body_run (c : Dev nD) (f0 : cc1_stg0_0.ty.Contents (Elt F)) (f1 : cc1_stg1_0.ty.Contents (Elt F)) (f2 : cc1_stg2_0.ty.Contents (Elt F))
    (f3 : cc1_stg3_0.ty.Contents (Elt F)) (f4 : cc1_stg4_0.ty.Contents (Elt F)) (f5 : cc1_stg5_0.ty.Contents (Elt F)) (f6 : cc1_stg6_0.ty.Contents (Elt F))
    (Q : PUnit → sProp 𝕄) :
    iprop(pl c cc1_stg0_0 f0 ∗ pl c cc1_stg1_0 f1 ∗ pl c cc1_stg2_0 f2 ∗ pl c cc1_stg3_0 f3 ∗ pl c cc1_stg4_0 f4 ∗ pl c cc1_stg5_0 f5 ∗ pl c cc1_stg6_0 f6
        ∗ (iprop(pl c cc1_stg0_0 f0 ∗ pl c cc1_stg1_0 f1 ∗ pl c cc1_stg2_0 f2 ∗ pl c cc1_stg3_0 f3 ∗ pl c cc1_stg4_0 f4 ∗ pl c cc1_stg5_0 f5
            ∗ pl c cc1_stg6_0 (outv f0 f1 f2 f3 f4 f5)) -∗ Q ⟨⟩))
      ⊢ wp frame (wpE (defs₀ (F := F)) 𝒱₀ (c : Thread nD τ) none) Set.univ
          (cc1__tc_dense_body (F := F) (Memref.whole cc1_stg0_0) (Memref.isWhole_whole _) (Memref.whole cc1_stg1_0) (Memref.isWhole_whole _)
            (Memref.whole cc1_stg2_0) (Memref.isWhole_whole _) (Memref.whole cc1_stg3_0) (Memref.isWhole_whole _) (Memref.whole cc1_stg4_0) (Memref.isWhole_whole _)
            (Memref.whole cc1_stg5_0) (Memref.isWhole_whole _) (Memref.whole cc1_stg6_0) (Memref.isWhole_whole _)) Q := by
  simp only [cc1__tc_dense_body_eq_skeleton]; unfold cc1__tc_dense_body_skel
  simp only [k1_part1_eq_skeleton]; unfold k1_part1_skel
  iintro ⟨H0, H1, H2, H3, H4, H5, H6, Hk⟩
  ihave H0' := (show (_ : sProp 𝕄) ⊢ ((Memref.whole cc1_stg0_0).view.loc (c : Thread nD τ) ↦{fullShare} f0) from .rfl) $$ H0
  ihave H1' := (show (_ : sProp 𝕄) ⊢ ((Memref.whole cc1_stg1_0).view.loc (c : Thread nD τ) ↦{fullShare} f1) from .rfl) $$ H1
  ihave H2' := (show (_ : sProp 𝕄) ⊢ ((Memref.whole cc1_stg2_0).view.loc (c : Thread nD τ) ↦{fullShare} f2) from .rfl) $$ H2
  ihave H3' := (show (_ : sProp 𝕄) ⊢ ((Memref.whole cc1_stg3_0).view.loc (c : Thread nD τ) ↦{fullShare} f3) from .rfl) $$ H3
  ihave H4' := (show (_ : sProp 𝕄) ⊢ ((Memref.whole cc1_stg4_0).view.loc (c : Thread nD τ) ↦{fullShare} f4) from .rfl) $$ H4
  ihave H5' := (show (_ : sProp 𝕄) ⊢ ((Memref.whole cc1_stg5_0).view.loc (c : Thread nD τ) ↦{fullShare} f5) from .rfl) $$ H5
  ihave H6' := (show (_ : sProp 𝕄) ⊢ ((Memref.whole cc1_stg6_0).view.loc (c : Thread nD τ) ↦{fullShare} f6) from .rfl) $$ H6
  sl_exec
  sl_step
  iapply Hk
  isplitl [H0']; · iexact H0'
  isplitl [H1']; · iexact H1'
  isplitl [H2']; · iexact H2'
  isplitl [H3']; · iexact H3'
  isplitl [H4']; · iexact H4'
  isplitl [H5']; · iexact H5'
  refine Entails.of_eq (congrArg (fun f => (((c : Thread nD τ).loc cc1_stg6_0) ↦{fullShare} f : sProp 𝕄)) ?_)
  dsimp only
  refine (View.read_writes_full (s := S22x64) (Memref.whole cc1_stg6_0).view f6 inb_S22x64_S22x64_0_0 _ []).trans ?_
  unfold outv
  have e0 : View.readAt (Elt F) (Memref.whole cc1_stg0_0).view (Rect.unit (s := S22x22) ![0, 0] S22x22.size inb_S22x22_S22x22_0_0).toLoadRect f0 = f0 :=
    View.readAt_full (s := S22x22) (Memref.whole cc1_stg0_0).view f0 inb_S22x22_S22x22_0_0
  have e1 : View.readAt (Elt F) (Memref.whole cc1_stg1_0).view (Rect.unit (s := S22x1000) ![0, 0] S22x1000.size inb_S22x1000_S22x1000_0_0).toLoadRect f1 = f1 :=
    View.readAt_full (s := S22x1000) (Memref.whole cc1_stg1_0).view f1 inb_S22x1000_S22x1000_0_0
  have e2 : View.readAt (Elt F) (Memref.whole cc1_stg2_0).view (Rect.unit (s := S256x1000) ![0, 0] S256x1000.size inb_S256x1000_S256x1000_0_0).toLoadRect f2 = f2 :=
    View.readAt_full (s := S256x1000) (Memref.whole cc1_stg2_0).view f2 inb_S256x1000_S256x1000_0_0
  have e3 : View.readAt (Elt F) (Memref.whole cc1_stg3_0).view (Rect.unit (s := S1x256) ![0, 0] S1x256.size inb_S1x256_S1x256_0_0).toLoadRect f3 = f3 :=
    View.readAt_full (s := S1x256) (Memref.whole cc1_stg3_0).view f3 inb_S1x256_S1x256_0_0
  have e4 : View.readAt (Elt F) (Memref.whole cc1_stg4_0).view (Rect.unit (s := S64x256) ![0, 0] ![64, 256] inb_S64x256_S64x256_0_0).toLoadRect f4 = f4 :=
    View.readAt_full (s := S64x256) (Memref.whole cc1_stg4_0).view f4 inb_S64x256_S64x256_0_0
  have e5 : View.readAt (Elt F) (Memref.whole cc1_stg5_0).view (Rect.unit (s := S1x64) ![0, 0] ![1, 64] inb_S1x64_S1x64_0_0).toLoadRect f5 = f5 :=
    View.readAt_full (s := S1x64) (Memref.whole cc1_stg5_0).view f5 inb_S1x64_S1x64_0_0
  rw [e0, e1, e2, e3, e4, e5]

/-! ## The pipeline's proof data -/

/-- Contents of the TensorCore's buffers, on every device. -/
abbrev Bufs : Type := (c : Dev nD) → (b : Ref sig .tc) → Buf (Elt F) ((c : Thread nD τ).loc b)

variable (V : Bufs (F := F))

/-- What the body's result is at those contents. -/
def res (c : Dev nD) : S22x64.Idx → F .f32 :=
  outv (V c main_v0) (V c main_arg0) (V c main_arg1) (V c main_v1) (V c main_arg3) (V c main_v2)

/-- The (cell, index) pairs the handshakes before the call may have recorded: of level at most the first call's end. -/
abbrev rec (c : Dev nD) : Set (SemLoc sig × HIx 1) := {p | (K (F := F)).lev ((c : Thread nD τ), p.1) p.2 ≤ 8}

def dat1 (c : Dev nD) : Pipeline.Dat τ (Elt F) (HIx 1) ℕ UU ℕ cfg1 c where
  A w := V c (Pipeline.arrRef spec1 w)
  after w _ := match w with
    | ⟨0, _⟩ => V c main_v0
    | ⟨1, _⟩ => V c main_arg0
    | ⟨2, _⟩ => V c main_arg1
    | ⟨3, _⟩ => V c main_v1
    | ⟨4, _⟩ => V c main_arg3
    | ⟨5, _⟩ => V c main_v2
    | ⟨6, _⟩ => res V c
  Φ _ := iprop(emp)
  q _ := fullShare
  owed _ := 0
  recorded _ := rec (F := F) c

abbrev adm : (p : Fin 1) → (pcfgs (F := F) p).Adm := fun p => (cfgs p).toPCfg_adm
def dats : (p : Fin 1) → (c : Dev nD) → Pipeline.Dat τ (Elt F) (HIx 1) ℕ UU ℕ (Pipeline.pin (pcfgs (F := F)) adm p) c
  | 0 => dat1 V

/-! What each input window stages at the one point: its array. -/

theorem before_0 (c : Dev nD) (d : (cfg1.win 0).block.Idx → Elt F (cfg1.win 0).elt) : (dat1 V c).before 0 t1_0 d = V c main_v0 := by
  unfold Pipeline.Dat.before; rw [if_pos (by decide)]
  rw [show (dat1 V c).fetched 0 t1_0 d = ((cfg1.win 0).blk t1_0).view.read (Elt F) (V c main_v0) from rfl]
  blk_ext! [show win1_0.index t1_0 = ![0, 0] from by decide +kernel]

theorem before_1 (c : Dev nD) (d : (cfg1.win 1).block.Idx → Elt F (cfg1.win 1).elt) : (dat1 V c).before 1 t1_0 d = V c main_arg0 := by
  unfold Pipeline.Dat.before; rw [if_pos (by decide)]
  rw [show (dat1 V c).fetched 1 t1_0 d = ((cfg1.win 1).blk t1_0).view.read (Elt F) (V c main_arg0) from rfl]
  blk_ext! [show win1_1.index t1_0 = ![0, 0] from by decide +kernel]

theorem before_2 (c : Dev nD) (d : (cfg1.win 2).block.Idx → Elt F (cfg1.win 2).elt) : (dat1 V c).before 2 t1_0 d = V c main_arg1 := by
  unfold Pipeline.Dat.before; rw [if_pos (by decide)]
  rw [show (dat1 V c).fetched 2 t1_0 d = ((cfg1.win 2).blk t1_0).view.read (Elt F) (V c main_arg1) from rfl]
  blk_ext! [show win1_2.index t1_0 = ![0, 0] from by decide +kernel]

theorem before_3 (c : Dev nD) (d : (cfg1.win 3).block.Idx → Elt F (cfg1.win 3).elt) : (dat1 V c).before 3 t1_0 d = V c main_v1 := by
  unfold Pipeline.Dat.before; rw [if_pos (by decide)]
  rw [show (dat1 V c).fetched 3 t1_0 d = ((cfg1.win 3).blk t1_0).view.read (Elt F) (V c main_v1) from rfl]
  blk_ext! [show win1_3.index t1_0 = ![0, 0] from by decide +kernel]

theorem before_4 (c : Dev nD) (d : (cfg1.win 4).block.Idx → Elt F (cfg1.win 4).elt) : (dat1 V c).before 4 t1_0 d = V c main_arg3 := by
  unfold Pipeline.Dat.before; rw [if_pos (by decide)]
  rw [show (dat1 V c).fetched 4 t1_0 d = ((cfg1.win 4).blk t1_0).view.read (Elt F) (V c main_arg3) from rfl]
  blk_ext! [show win1_4.index t1_0 = ![0, 0] from by decide +kernel]

theorem before_5 (c : Dev nD) (d : (cfg1.win 5).block.Idx → Elt F (cfg1.win 5).elt) : (dat1 V c).before 5 t1_0 d = V c main_v2 := by
  unfold Pipeline.Dat.before; rw [if_pos (by decide)]
  rw [show (dat1 V c).fetched 5 t1_0 d = ((cfg1.win 5).blk t1_0).view.read (Elt F) (V c main_v2) from rfl]
  blk_ext! [show win1_5.index t1_0 = ![0, 0] from by decide +kernel]

theorem body_obligation (c : Dev nD) : BodyObligation (dat1 (F := F) V c) (defs₀ (F := F)) 𝒱₀ none Set.univ := fun t => by
  obtain rfl := fin_N1 t
  rw [bigSep_W1, bigSep_W1]
  simp only [owns_whole_eq]
  rw [show (dat1 V c).Φ t1_0.castSucc = iprop(emp) from rfl, show (dat1 V c).Φ t1_0.succ = iprop(emp) from rfl,
    show (dat1 V c).owesAt none t1_0.succ = (dat1 V c).owesAt none t1_0.castSucc from rfl]
  iintro ⟨-, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩,
    ⟨%d6, %f6, %hf6, H6⟩⟩
  rw [before_0] at hf0; rw [before_1] at hf1; rw [before_2] at hf2; rw [before_3] at hf3; rw [before_4] at hf4; rw [before_5] at hf5
  subst hf0 hf1 hf2 hf3 hf4 hf5
  iapply (body_run c (V c main_v0) (V c main_arg0) (V c main_arg1) (V c main_v1) (V c main_arg3) (V c main_v2) f6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitr; · iempintro
  isplitl [HO]; · iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  iexists _; isplitr; swap; (· iexact H6); ipureintro; rfl

/-! ## The arrays at the call's end -/

/-- The windows' arrays, one by one. -/
theorem arrays_eq (c : Dev nD) (Fa) : ((dats (F := F) V 0 c).arrays Fa : sProp 𝕄)
    = iprop(pl c main_v0 (Fa 0) ∗ pl c main_arg0 (Fa 1) ∗ pl c main_arg1 (Fa 2) ∗ pl c main_v1 (Fa 3) ∗ pl c main_arg3 (Fa 4) ∗ pl c main_v2 (Fa 5) ∗ pl c main_v3 (Fa 6)) := by
  rw [Pipeline.arrays_eq (Pipeline.pin (pcfgs (F := F)) adm) (dats V) 0 c launch1.arr_whole ((dats V 0 c).share_full fun _ => rfl) Fa, bigSep_W1]

/-- The result array at the call's end. -/
theorem arrAt_out (c : Dev nD) : (dats (F := F) V 0 c).arrAt 6 (Pipeline.pin (pcfgs (F := F)) adm 0).N = res V c := by
  refine (dat1 V c).arrAt_eq_of_after_last 6 t1_0 (by decide +kernel) _ fun j => ?_
  blk_simp
  rfl

/-- The seven arrays at contents `f` and what the core has recorded. -/
def held7 (c : Dev nD) (fout : S22x64.Idx → F .f32) : sProp 𝕄 :=
  iprop((pl c main_v0 (V c main_v0) ∗ pl c main_arg0 (V c main_arg0) ∗ pl c main_arg1 (V c main_arg1) ∗ pl c main_v1 (V c main_v1)
      ∗ pl c main_arg3 (V c main_arg3) ∗ pl c main_v2 (V c main_v2) ∗ pl c main_v3 fout)
    ∗ ∃ W, ⌜(K (F := F)).WBelow (c : Thread nD τ) W 8⌝ ∗ owes (c : Thread nD τ) (0 : CellTallies nD τ sig (HIx 1)) W)

def reg : Pipeline.RegionSeg (pcfgs (F := F)) adm (dats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ _ _ 0 fun _ _ => rfl
  pre c := held7 V c (V c main_v3)
  post c := held7 V c (res V c)
  X _ := iprop(emp)
  Y _ := iprop(emp)
  Z _ := iprop(emp)
  hentry c := by
    rw [Pipeline.ownSems0_none, arrays_eq]
    unfold held7
    iintro ⟨⟨Ha, %W, %hW, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by iintro -; iempintro
  hout c := by
    rw [Pipeline.ownSems0_none]
    rw [show (dats V 0 c).Φ (Fin.last (Pipeline.pin (pcfgs (F := F)) adm 0).N) = iprop(emp) from rfl,
      show Pipeline.scopedRest (Pipeline.pin (pcfgs (F := F)) adm 0).spec c = iprop(emp) from scopedRest1_eq c]
    iintro -; isplitr; · iempintro
    isplitr <;> iempintro
  hexit c := by
    rw [arrays_eq, arrAt_out]
    unfold held7
    iintro ⟨Ha, HO, -, -⟩
    imodintro
    isplitl [Ha]; · iexact Ha
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

end Cert.Proof.Dense

end
-- ==== Proof.Run.lean ====
/-
  The program's run, over any float values: @main on the TensorCore makes the SparseCore call (`Adj`), reshapes the two
  biases, and makes the TensorCore call (`Dense`); the result is `out`, a term over the launch memory, the arguments are
  unchanged and every semaphore counter ends at zero.
-/
module

public import proofs.«01_k».proof.Proof.Dense

@[expose] public section

noncomputable section

namespace Cert.Proof.Run

open Cert.KernelIdeal Cert.KernelIdeal.Gen Cert.Proof.Adj Cert.Proof.Dense

open Idealize.ShloMosaic
open Idealize.ShloMosaic.TcCoe
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The TensorCore call inside @main -/

/-- The staging cells' ghost state of a device, as the launch deals it. -/
abbrev G (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

/-- The call in the pipeline's own signature, and @main's spelling of it: the same call lifted. -/
def callP : Prog (TpuEff nD τ sig (Elt F) (ΛP (F := F)) .tc) PUnit := .op (.customCall (Pipeline.entry 0) ()) fun x => .ret x
theorem callP_lift : (Prog.lift (.customCall (SparseCore.inner (Pipeline.entry 0)) ()) : Prog (TpuEff nD τ sig (Elt F) (SparseCore.Sig (ΛP (F := F)) 1) .tc) PUnit)
    = SparseCore.liftProg (callP (F := F)) := rfl

set_option backward.isDefEq.respectTransparency.types false in
/-- The region's rule at this call. -/
theorem region_call [∀ e, Nonempty (Elt F e)] (V : Bufs (F := F)) (d : Dev nD) (Q : PUnit → sProp 𝕄) :
    iprop((iprop(boundary (d : Thread nD τ) ∗ held7 V d (res V d)) -∗ wp frame (wpE (D (F := F)) 𝒱P (T d) none) Set.univ (.ret ⟨⟩) Q) ∗ boundary (d : Thread nD τ) ∗ held7 V d (V d main_v3)
        ∗ levAts (K (F := F)).L (K (F := F)).lev ∗ Pipeline.cellsGhost (Pipeline.pin (pcfgs (F := F)) adm) EP 0 d ∗ Pipeline.toksInit (Pipeline.pin (pcfgs (F := F)) adm) EP 0 d)
      ⊢ wp frame (wpE (D (F := F)) 𝒱P (T d) none) Set.univ (callP (F := F)) Q :=
  Pipeline.RegionSeg.wp (pcfgs (F := F)) adm (dats V) none cellOf_inj EP defs₀ 𝒱₀ (K (F := F)).L (K (F := F)).lev (reg V) d none
    (fun u h => absurd h (Option.not_mem_none u)) (fun x => .ret x) Q

theorem dense_call [∀ e, Nonempty (Elt F e)] (V : Bufs (F := F)) (d : Dev nD) (Q : PUnit → sProp 𝕄) :
    iprop((iprop(boundary (d : Thread nD τ) ∗ held7 V d (res V d)) -∗ Q ⟨⟩) ∗ boundary (d : Thread nD τ) ∗ held7 V d (V d main_v3)
        ∗ levAts (K (F := F)).L (K (F := F)).lev ∗ G (F := F) d)
      ⊢ wp frame (wpE ((K (F := F)).defs (D (F := F))) 𝒱P (T d) none) Set.univ
          (Prog.lift (.customCall (SparseCore.inner (Pipeline.entry 0)) ())) Q := by
  rw [callP_lift]
  unfold G
  rw [show (Finset.univ : Finset (Fin 1)) = {0} from rfl, bigSep_singleton, bigSep_singleton]
  iintro ⟨Hk, Hb, Hh, Hl, Hg, Ht⟩
  iapply ((K (F := F)).wp_liftProg (D (F := F)) 𝒱P (T d) Set.univ none (callP (F := F)) Q)
  iapply (region_call V d Q) $$ [Hk Hb Hh Hl Hg Ht]
  isplitl [Hk]
  · iintro H
    rw [wp_ret]; imodintro
    iapply Hk
    iexact H
  isplitl [Hb]; · iexact Hb
  isplitl [Hh]; · iexact Hh
  isplitl [Hl]; · iexact Hl
  isplitl [Hg] <;> iassumption

/-! ## The launch element -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

variable (m : (ℓ : Loc nD τ sig) → Buf (Elt F) ℓ) (ρ : Dev nD → PrngReg)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H' := (own_pair_emb embR _ _) $$ HR
  icases H' with ⟨HP, -⟩
  imod (Pipeline.fund_ghost (Pipeline.pin (pcfgs (F := F)) adm) EP cellOf_inj) $$ HP with ⟨Hg, Ht⟩
  imodintro
  isplitl [HH]; · iexact HH
  isplitl [Hg Ht]
  · unfold G
    rw [bigSep_sep']
    isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The TensorCore's arrays -/

abbrev dr (b : Ref sig .tc) : DevRef τ sig := Proc.devRef .tc b

/-- The TensorCore's arrays, all unscoped. -/
abbrev S10 : Finset (DevRef τ sig) :=
  {dr main_v0, dr main_arg0, dr main_arg1, dr main_v1, dr main_arg3, dr main_v2, dr main_v3, dr main_arg2, dr main_arg4, dr main_arg5}

/-- The ten arrays at a valuation, one by one. -/
def ten (d : Dev nD) (W : Valuation τ sig (Elt F)) : sProp 𝕄 :=
  iprop(pl d main_v0 (W (dr main_v0)) ∗ pl d main_arg0 (W (dr main_arg0)) ∗ pl d main_arg1 (W (dr main_arg1)) ∗ pl d main_v1 (W (dr main_v1))
    ∗ pl d main_arg3 (W (dr main_arg3)) ∗ pl d main_v2 (W (dr main_v2)) ∗ pl d main_v3 (W (dr main_v3)) ∗ pl d main_arg2 (W (dr main_arg2))
    ∗ pl d main_arg4 (W (dr main_arg4)) ∗ pl d main_arg5 (W (dr main_arg5)))

theorem held_S10 (d : Dev nD) (W : Valuation τ sig (Elt F)) : (held (T d) S10 W : sProp 𝕄) = ten d W := by
  unfold held S10 ten
  rw [bigSep_eq_bigSepL_of_eq [dr main_v0, dr main_arg0, dr main_arg1, dr main_v1, dr main_arg3, dr main_v2, dr main_v3, dr main_arg2, dr main_arg4, dr main_arg5]
    (by decide) (by decide)]
  rfl

theorem unscopedBufs_eq (d : Dev nD) (W : (b : Ref sig .tc) → Buf (Elt F) ((d : Thread nD τ).loc b)) : (unscopedBufs d W : sProp 𝕄)
    = iprop(pl d main_v0 (W main_v0) ∗ pl d main_arg0 (W main_arg0) ∗ pl d main_arg1 (W main_arg1) ∗ pl d main_v1 (W main_v1)
    ∗ pl d main_arg3 (W main_arg3) ∗ pl d main_v2 (W main_v2) ∗ pl d main_v3 (W main_v3) ∗ pl d main_arg2 (W main_arg2)
    ∗ pl d main_arg4 (W main_arg4) ∗ pl d main_arg5 (W main_arg5)) := by
  unfold unscopedBufs
  rw [bigSep_eq_bigSepL_of_eq [main_v0, main_arg0, main_arg1, main_v1, main_arg3, main_v2, main_v3, main_arg2, main_arg4, main_arg5]
    (by decide) (by decide)]
  rfl

abbrev op1 : HloOp τ sig (Elt F) := StableHlo.reshape main_arg2 main_v1 (rfl : (.f32 : EltTy) = .f32) shapeCasts_S256_S1x256
abbrev op2 : HloOp τ sig (Elt F) := StableHlo.reshape main_arg4 main_v2 (rfl : (.f32 : EltTy) = .f32) shapeCasts_S64_S1x64

/-- The arrays at launch; after the SparseCore call; after the two reshapes. -/
def W0 (d : Dev nD) : Valuation τ sig (Elt F) := fun b => m (d, b)
def W1 (d : Dev nD) : Valuation τ sig (Elt F) := Function.update (W0 m d) (dr main_v0) (adj (edges m d))
def W3 (d : Dev nD) : Valuation τ sig (Elt F) := (op2 (F := F)).result ((op1 (F := F)).result (W1 m d))

theorem h1 : (op1 (F := F)).bufs ⊆ S10 := show ({dr main_arg2, dr main_v1} : Finset (DevRef τ sig)) ⊆ S10 by decide
theorem h2 : (op2 (F := F)).bufs ⊆ S10 := show ({dr main_arg4, dr main_v2} : Finset (DevRef τ sig)) ⊆ S10 by decide

theorem W1_ten (d : Dev nD) : ten d (W1 m d) = iprop(pl d main_v0 (adj (edges m d)) ∗ pl d main_arg0 (W0 m d (dr main_arg0)) ∗ pl d main_arg1 (W0 m d (dr main_arg1))
    ∗ pl d main_v1 (W0 m d (dr main_v1)) ∗ pl d main_arg3 (W0 m d (dr main_arg3)) ∗ pl d main_v2 (W0 m d (dr main_v2)) ∗ pl d main_v3 (W0 m d (dr main_v3))
    ∗ pl d main_arg2 (W0 m d (dr main_arg2)) ∗ pl d main_arg4 (W0 m d (dr main_arg4)) ∗ pl d main_arg5 (W0 m d (dr main_arg5))) := by
  unfold ten W1
  rw [Function.update_self]
  have h : ∀ b : Ref sig .tc, dr b ≠ dr main_v0 → Function.update (W0 m d) (dr main_v0) (adj (edges m d)) (dr b) = W0 m d (dr b) :=
    fun b hb => Function.update_of_ne hb _ _
  rw [h _ (by decide), h _ (by decide), h _ (by decide), h _ (by decide), h _ (by decide), h _ (by decide), h _ (by decide), h _ (by decide), h _ (by decide)]

/-- What the two calls and the reshapes do not write stays as launched. -/
theorem W3_arg (d : Dev nD) (b : Ref sig .tc) (h0 : dr b ≠ dr main_v0) (hv1 : dr b ≠ dr main_v1) (hv2 : dr b ≠ dr main_v2) : W3 m d (dr b) = m ((d : Thread nD τ).loc b) := by
  unfold W3
  rw [(op2 (F := F)).result_of_not_mem _ (show dr b ∉ ({dr main_v2} : Finset (DevRef τ sig)) from fun h => hv2 (Finset.mem_singleton.mp h)),
    (op1 (F := F)).result_of_not_mem _ (show dr b ∉ ({dr main_v1} : Finset (DevRef τ sig)) from fun h => hv1 (Finset.mem_singleton.mp h))]
  exact Function.update_of_ne h0 _ _

/-- The TensorCore call's entry contents. -/
def VV : Bufs (F := F) := fun d b => W3 m d (dr b)

/-- What the call takes for the SparseCore, and what it hands back. -/
theorem st0_eq (d : Dev nD) : (bigSep Finset.univ fun c : Fin ((K (F := F)).nCore 0) => (P m).st 0 d c) = give m d := by
  show (bigSep (Finset.univ : Finset (Fin 1)) fun _ => give m d) = _
  rw [show (Finset.univ : Finset (Fin 1)) = {0} from rfl, bigSep_singleton]
theorem dn0_eq (d : Dev nD) : (bigSep Finset.univ fun c : Fin ((K (F := F)).nCore 0) => (P m).dn 0 d c) = take m d := by
  show (bigSep (Finset.univ : Finset (Fin 1)) fun _ => take m d) = _
  rw [show (Finset.univ : Finset (Fin 1)) = {0} from rfl, bigSep_singleton]

/-- What @main leaves the claim. -/
def FIN (d : Dev nD) : sProp 𝕄 :=
  iprop(pl d main_arg0 (VV m d main_arg0) ∗ pl d main_arg1 (VV m d main_arg1) ∗ pl d main_arg2 (VV m d main_arg2) ∗ pl d main_arg3 (VV m d main_arg3)
    ∗ pl d main_arg4 (VV m d main_arg4) ∗ pl d main_arg5 (VV m d main_arg5) ∗ pl d main_v3 (res (VV m) d))

/-- After the call the TensorCore owes nothing, what it recorded being of level at most 8. -/
theorem tcSt_end (d : Dev nD) : ∃ R : sProp 𝕄, ((K (F := F)).tcSt EH d 1 : sProp 𝕄) =
    iprop((∃ W, ⌜(K (F := F)).WBelow (T d) W 8⌝ ∗ owes (T d) (0 : CellTallies nD τ sig (HIx 1)) W) ∗ R) := by
  refine ⟨?_, ?_⟩
  rotate_left
  · unfold SparseCore.Cfg.tcSt
    rw [(K (F := F)).Otc_end d (le_refl 1)]
    exact rfl

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱P (SparseCore.T d) none) Set.univ (main d)
          fun _ => iprop((K (F := F)).tcSt EH d 1 ∗ FIN m d ∗ (K (F := F)).tcEnd d) := by
  obtain ⟨R, hR⟩ := tcSt_end (F := F) d
  unfold SparseCore.Cfg.tcRes SparseCore.Cfg.tcEnd
  rw [unscopedBufs_eq]
  simp only [main, wp_bind, wp_pure]
  iintro ⟨#Hctx, Hst, ⟨Hb, Hten, Hts, -⟩, Hg⟩
  icases Hten with ⟨H0, Ha0, Ha1, H1, Ha3, H2, H3, Ha2, Ha4, Ha5⟩
  -- the SparseCore call
  iapply ((K (F := F)).wp_run (D (F := F)) 𝒱P (EH := EH) (P := P m) κ d 0) $$ [Hst Ha5 H0 Hb Hts Hg Ha0 Ha1 H1 Ha3 H2 H3 Ha2 Ha4]
  isplitr; · iexact Hctx
  isplitl [Hst]; · iexact Hst
  isplitl [Ha5 H0]
  · rw [st0_eq]
    isplitl [Ha5]; · iexact Ha5
    iexists _; iexact H0
  iintro ⟨Hst, Hdn⟩
  ihave Hdn' := (Entails.of_eq (dn0_eq m d)) $$ Hdn
  icases Hdn' with ⟨Ha5, H0⟩
  -- the two reshapes
  iapply (wp_hlo_within 𝒱P (SparseCore.T d) none Set.univ (op := op1) (S := S10) h1 (V := W1 m d)) $$ [Hb Ha5 H0 Ha0 Ha1 H1 Ha3 H2 H3 Ha2 Ha4]
  · isplitl [Hb]; · iexact Hb
    rw [held_S10, W1_ten]
    isplitl [H0]; · iexact H0
    isplitl [Ha0]; · iexact Ha0
    isplitl [Ha1]; · iexact Ha1
    isplitl [H1]; · iexact H1
    isplitl [Ha3]; · iexact Ha3
    isplitl [H2]; · iexact H2
    isplitl [H3]; · iexact H3
    isplitl [Ha2]; · iexact Ha2
    isplitl [Ha4]; · iexact Ha4
    iexact Ha5
  iintro ⟨Hb, Hheld⟩
  rw [wp_ret]; imodintro
  iapply (wp_hlo_within 𝒱P (SparseCore.T d) none Set.univ (op := op2) (S := S10) h2 (V := (op1 (F := F)).result (W1 m d))) $$ [Hb Hheld]
  · isplitl [Hb] <;> iassumption
  iintro ⟨Hb, Hheld⟩
  rw [wp_ret]; imodintro
  ihave Hten := (Entails.of_eq (show held (T d) S10 ((op2 (F := F)).result ((op1 (F := F)).result (W1 m d))) = ten d (W3 m d) from held_S10 d _)) $$ Hheld
  unfold ten
  icases Hten with ⟨H0, Ha0, Ha1, H1, Ha3, H2, H3, Ha2, Ha4, Ha5⟩
  ihave Hst' := (Entails.of_eq (show (K (F := F)).tcSt EH d ((0 : Fin 1).val + 1) = _ from hR)) $$ Hst
  icases Hst' with ⟨HO, Hrest⟩
  ihave Hlev := ((K (F := F)).ctx_levAts κ) $$ Hctx
  -- the TensorCore call
  iapply (dense_call (VV m) d _) $$ [HO Hrest Hlev Hb Hg Hts H0 Ha0 Ha1 H1 Ha3 H2 H3 Ha2 Ha4 Ha5]
  isplitl [Hrest Hts Ha2 Ha4 Ha5]
  · unfold held7
    iintro ⟨Hb, ⟨H0, Ha0, Ha1, H1, Ha3, H2, H3⟩, HO⟩
    imodintro
    isplitl [HO Hrest]
    · rw [hR]
      isplitl [HO]; · iexact HO
      iexact Hrest
    isplitr [Hb Hts]
    · unfold FIN
      isplitl [Ha0]; · iexact Ha0
      isplitl [Ha1]; · iexact Ha1
      isplitl [Ha2]; · iexact Ha2
      isplitl [Ha3]; · iexact Ha3
      isplitl [Ha4]; · iexact Ha4
      isplitl [Ha5]; · iexact Ha5
      iexact H3
    isplitl [Hb] <;> iassumption
  isplitl [Hb]; · iexact Hb
  isplitl [HO H0 Ha0 Ha1 H1 Ha3 H2 H3]
  · unfold held7
    isplitr [HO]
    · isplitl [H0]; · iexact H0
      isplitl [Ha0]; · iexact Ha0
      isplitl [Ha1]; · iexact Ha1
      isplitl [H1]; · iexact H1
      isplitl [Ha3]; · iexact Ha3
      isplitl [H2]; · iexact H2
      iexact H3
    iexact HO
  isplitl [Hlev]; · iexact Hlev
  iexact Hg

/-! ## The final memory -/

/-- The result array at the end. -/
abbrev out (d : Dev nD) : S22x64.Idx → F .f32 := res (VV m) d

def fq (d : Dev nD) (s' : Phys nD τ sig (Elt F)) : Prop :=
  s'.mem.mem ((d : Thread nD τ).loc main_v3) = out m d
    ∧ ∀ b ∈ [main_arg0, main_arg1, main_arg2, main_arg3, main_arg4, main_arg5], s'.mem.mem ((d : Thread nD τ).loc b) = m ((d : Thread nD τ).loc b)

theorem agree_keep (d : Dev nD) (b : Ref sig .tc) (f : Buf (Elt F) ((d : Thread nD τ).loc b)) (s' : Phys nD τ sig (Elt F)) :
    iprop(SI s' ∗ pl d b f) ⊢ (iprop(⌜s'.mem.mem ((d : Thread nD τ).loc b) = f⌝ ∗ SI s') : sProp 𝕄) := by
  iintro ⟨HSI, H⟩
  ihave H := (persistent_entails_left (SI_pointsTo_agree (st := s') (ℓ := (d : Thread nD τ).loc b) (I := Finset.univ) (q := fullShare) (f := f))) $$ [HSI H]
  · isplitl [HSI] <;> iassumption
  icases H with ⟨⟨HSI, -⟩, %hx⟩
  isplitr
  · ipureintro; exact funext fun i => hx i (Finset.mem_univ i)
  · iexact HSI

theorem hfin (d : Dev nD) (s' : Phys nD τ sig (Elt F)) : iprop(FIN m d ∗ SI s') ⊢ (⌜fq m d s'⌝ : sProp 𝕄) := by
  have harg : ∀ b ∈ [main_arg0, main_arg1, main_arg2, main_arg3, main_arg4, main_arg5], VV m d b = m ((d : Thread nD τ).loc b) := fun b hb =>
    W3_arg m d b (by revert b; decide) (by revert b; decide) (by revert b; decide)
  unfold FIN
  rw [harg main_arg0 (by decide), harg main_arg1 (by decide), harg main_arg2 (by decide), harg main_arg3 (by decide), harg main_arg4 (by decide), harg main_arg5 (by decide)]
  iintro ⟨⟨H0, H1, H2, H3, H4, H5, Hv⟩, HSI⟩
  ihave H := (agree_keep d main_arg0 _ s') $$ [HSI H0]
  · isplitl [HSI] <;> iassumption
  icases H with ⟨%h0, HSI⟩
  ihave H := (agree_keep d main_arg1 _ s') $$ [HSI H1]
  · isplitl [HSI] <;> iassumption
  icases H with ⟨%h1, HSI⟩
  ihave H := (agree_keep d main_arg2 _ s') $$ [HSI H2]
  · isplitl [HSI] <;> iassumption
  icases H with ⟨%h2, HSI⟩
  ihave H := (agree_keep d main_arg3 _ s') $$ [HSI H3]
  · isplitl [HSI] <;> iassumption
  icases H with ⟨%h3, HSI⟩
  ihave H := (agree_keep d main_arg4 _ s') $$ [HSI H4]
  · isplitl [HSI] <;> iassumption
  icases H with ⟨%h4, HSI⟩
  ihave H := (agree_keep d main_arg5 _ s') $$ [HSI H5]
  · isplitl [HSI] <;> iassumption
  icases H with ⟨%h5, HSI⟩
  ihave H := (agree_keep d main_v3 _ s') $$ [HSI Hv]
  · isplitl [HSI] <;> iassumption
  icases H with ⟨%hv, -⟩
  ipureintro
  refine ⟨hv, fun b hb => ?_⟩
  simp only [List.mem_cons, List.mem_nil_iff, or_false] at hb
  rcases hb with rfl | rfl | rfl | rfl | rfl | rfl <;> assumption

/-- What every final state is: the result, the arguments, the counters. -/
def QC : PUnit × MemSt nD τ sig (Elt F) → Prop := fun r => (∀ d : Dev nD,
  r.2.mem ((d : Thread nD τ).loc main_v3) = out m d
    ∧ ∀ b ∈ [main_arg0, main_arg1, main_arg2, main_arg3, main_arg4, main_arg5], r.2.mem ((d : Thread nD τ).loc b) = m ((d : Thread nD τ).loc b))
  ∧ r.2.sem = fun _ => 0

/-- THE RUN, over any float values, from any memory whose edge list holds words below 22. -/
theorem run_main [∀ e, Nonempty (Elt F e)] (hE : ∀ d x, (edges m d x).toNat < 22) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱P) (EH := EH) (P := P m) (A := ∅) facts v₀
    (fun q _ => match q with | 0 => scalarObl m hE)
    (fun q hq => match q with | 0 => nomatch hq)
    (fun q hq => match q with | 0 => nomatch hq)
    m ρ main (fun d => G (F := F) d) (FIN m) (u₀ (F := F)) (sep_elim_left.trans (hu₀ m)) (hmain m ρ) (fq m) (hfin m) (QC m) (fun _ h hz => ⟨h, hz⟩)

end Cert.Proof.Run

end
-- ==== Proof.Pre.lean ====
/-
  What the two preconditions say of the edge list: every word of it is below 22 (`in_range`, `edge_list`), and two edges
  with the same source and the same target are the same edge (`edge_list`).
-/
module

public import proofs.«01_k».proof.Defs
public import Idealize.ShloMosaic.Lib.Pointwise
public import Idealize.ShloMosaic.Lib.Tactic.WordOmega

@[expose] public section

noncomputable section

namespace Cert.Proof.Pre

open Idealize.ShloMosaic

/-- The shape conditions that `in_range` states. -/
theorem facts_in_range : Cert.Pre_in_range.Facts := by
  constructor <;> decide

/-- The shape conditions that `edge_list` states. -/
theorem facts_edge_list : Cert.Pre_edge_list.Facts := by
  constructor <;> decide

/-- A word that is at least 0 and less than 22 as a signed number is less than 22 as a natural number. -/
theorem word_lt (w : BitVec 32) (h : IntOp.andi (IntOp.cmpi .sge w 0#32) (IntOp.cmpi .slt w 22#32) = 1#1) : w.toNat < 22 := by
  word_omega

variable {F : FTy → Type} [FloatOps F]
variable (a0 : FVec F ⟨2, ![22, 1000]⟩ .f32) (a1 : FVec F ⟨2, ![256, 1000]⟩ .f32) (a2 : FVec F ⟨1, ![256]⟩ .f32)
  (a3 : FVec F ⟨2, ![64, 256]⟩ .f32) (a4 : FVec F ⟨1, ![64]⟩ .f32) (E : IVec ⟨2, ![2, 144]⟩ 32)

/-- `in_range` bounds every word of the edge list. -/
theorem in_range_lt [Cert.Pre_in_range.Facts] (h : Cert.Pre_in_range.fn a0 a1 a2 a3 a4 E = fun _ => 1#1)
    (x : (⟨2, ![2, 144]⟩ : Shape).Idx) : (E x).toNat < 22 := by
  have hx := congrFun h x
  pointwise [Cert.Pre_in_range.fn] at hx
  exact word_lt _ hx

/-- `edge_list` does too. -/
theorem edge_list_lt [Cert.Pre_edge_list.Facts] (h : (Cert.Pre_edge_list.fn a0 a1 a2 a3 a4 E).1 = fun _ => 1#1)
    (x : (⟨2, ![2, 144]⟩ : Shape).Idx) : (E x).toNat < 22 := by
  have hx := congrFun h x
  pointwise [Cert.Pre_edge_list.fn] at hx
  exact word_lt _ hx

/-- Two positions below 144 with the same word are the same. -/
theorem iota_inj (k l : Fin 144) (h : BitVec.ofNat 32 k.val = BitVec.ofNat 32 l.val) : k = l := by
  have := congrArg BitVec.toNat h
  simp only [BitVec.toNat_ofNat] at this
  omega

/-- "`a = b` or `c ≠ c`" says `a = b`. -/
theorem eq_of_mask (a b c : BitVec 32) (h : IntOp.ori (IntOp.cmpi .eq a b) (IntOp.cmpi .ne c c) = 1#1) : a = b := by
  apply BitVec.eq_of_toNat_eq
  word_omega

/-- And its second part keeps the edges apart: no pair (source, target) is listed twice. -/
theorem edge_list_inj [Cert.Pre_edge_list.Facts] (h : (Cert.Pre_edge_list.fn a0 a1 a2 a3 a4 E).2 = fun _ => 1#1)
    (k l : Fin 144) (h0 : E (ix2 0 k) = E (ix2 0 l)) (h1 : E (ix2 1 k) = E (ix2 1 l)) : k = l := by
  have hx := congrFun h (ix2 k l)
  pointwise [Cert.Pre_edge_list.fn] at hx
  rw [h0, h1] at hx
  exact iota_inj k l (eq_of_mask _ _ _ hx)

end Cert.Proof.Pre

end
-- ==== Proof.Frames.lean ====
/-
  The frames: each program terminates without a fault, leaves its arguments as they were and every semaphore counter at
  zero. The kernel's, at both instances, is the run of `Run` with the result dropped; the reference's is its run as a
  straight line of host operations, which has no semaphore.
-/
module

public import proofs.«01_k».proof.Proof.Run
public import proofs.«01_k».proof.Proof.Pre
public import proofs.«01_k».proof.Proof.Gen.Kernel
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.ShloMosaic.TcCoe Idealize.SL.Sem

instance : Cert.Pre_in_range.Facts := Pre.facts_in_range
instance : Cert.Pre_edge_list.Facts := Pre.facts_edge_list

/-- The kernel's frame over any float values, from any edge list of words below 22: the run with the result dropped. -/
theorem frame_of {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (hE : ∀ d x, (Adj.edges m d x).toNat < 22) :
    θ_run (Cert.KernelIdeal.defs (F := F)) (Cert.KernelIdeal.threads (F := F)) ⟨m, fun _ => 0, ρ⟩ fun r =>
      (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0 :=
  (θ_run Cert.KernelIdeal.defs _ _).mono
    (fun _ h => ⟨fun c => have k := (h.1 c).2; ⟨k _ (by simp), k _ (by simp), k _ (by simp), k _ (by simp), k _ (by simp), k _ (by simp)⟩, h.2⟩)
    (Run.run_main m ρ hE)

/-- The two programs' bodies are the same text: label by label, processor by processor. -/
theorem bodies_eq : Cert.Kernel.defs₀ (F := Bits) = Cert.KernelIdeal.defs₀ (F := Bits) := by
  funext p ℓ a
  cases p with
  | tc => match ℓ, a with
    | 0, a => rfl
    | 1, a => rfl
  | scScalar c => match ℓ, a with
    | 0, a => rfl
    | 1, a => rfl
  | scVector c s => match ℓ, a with
    | 0, a => rfl
    | 1, a => rfl

/-- So are the programs that their labels name. -/
theorem defs_eq : Cert.Kernel.defs (F := Bits) = Cert.KernelIdeal.defs (F := Bits) := by
  unfold Cert.Kernel.defs
  rw [bodies_eq]
  rfl

/-- The frame of the kernel over its own floats. -/
theorem frame_kernel : Cert.quiescent_Kernel := fun m ρ hp => by
  rw [defs_eq]
  exact frame_of (F := Bits) m ρ fun d x => Pre.in_range_lt _ _ _ _ _ _ (hp d) x

/-- The frame of the kernel over the extended reals, under each of the two preconditions. -/
theorem frame_ideal : Cert.quiescent_KernelIdeal := fun m ρ hp =>
  frame_of (F := Ideal) m ρ fun d x => Pre.in_range_lt _ _ _ _ _ _ (hp d) x
theorem frame_ideal_edge_list : Cert.quiescent_KernelIdeal_pre_edge_list := fun m ρ hp =>
  frame_of (F := Ideal) m ρ fun d x => Pre.edge_list_lt _ _ _ _ _ _ (hp d).1 x

/-- The frame of the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_edge_list : Cert.quiescent_ReferenceIdeal_pre_edge_list := fun m ρ _ => frame_reference m ρ trivial

end Cert.Proof

end
-- ==== Proof.Graph.lean ====
/-
  The arithmetic over the extended reals: a sum over the edges that end at an electrode is a product with the adjacency
  array when no pair (source, target) is listed twice; a nonnegative real factor goes through such a sum; the inverse square
  root is the power with exponent −1/2.
-/
module

public import Idealize.ShloMosaic.PureOps.Ideal
public import Idealize.ShloMosaic.Lib.IdealHost

@[expose] public section

noncomputable section

namespace Cert.Proof.Graph

open Idealize.ShloMosaic

variable {n k : ℕ}

/-- The edges that end at `c`. -/
abbrev into (C : Fin k → Fin n) (c : Fin n) : Finset (Fin k) := Finset.univ.filter fun e => C e = c

/-- The adjacency array: one where an edge goes from `r` to `c`. -/
def adj (R C : Fin k → Fin n) (c r : Fin n) : EReal := if ∃ e, R e = r ∧ C e = c then 1 else 0

/-- A row of the adjacency array against `g` is the sum of `g` over the sources of the edges that end there. -/
theorem adj_sum (R C : Fin k → Fin n) (hinj : ∀ e e', R e = R e' → C e = C e' → e = e') (c : Fin n) (g : Fin n → EReal) :
    ∑ r, adj R C c r * g r = ∑ e ∈ into C c, g (R e) := by
  have h1 : ∑ e ∈ into C c, g (R e) = ∑ r ∈ (into C c).image R, g r := by
    rw [Finset.sum_image]
    intro e he e' he' h
    exact hinj e e' h (((Finset.mem_filter.mp he).2).trans ((Finset.mem_filter.mp he').2).symm)
  have h2 : ∀ r, r ∈ (into C c).image R ↔ ∃ e, R e = r ∧ C e = c := by
    intro r
    simp only [Finset.mem_image, Finset.mem_filter, Finset.mem_univ, true_and]
    exact ⟨fun ⟨e, a, b⟩ => ⟨e, b, a⟩, fun ⟨e, a, b⟩ => ⟨e, b, a⟩⟩
  rw [h1, ← Finset.univ_inter ((into C c).image R), ← Finset.sum_ite_mem]
  refine Finset.sum_congr rfl fun r _ => ?_
  by_cases hr : ∃ e, R e = r ∧ C e = c
  · rw [adj, if_pos hr, if_pos ((h2 r).mpr hr), one_mul]
  · rw [adj, if_neg hr, if_neg fun h => hr ((h2 r).mp h), zero_mul]

/-- A row of the adjacency array adds up to the number of edges that end there. -/
theorem adj_row (R C : Fin k → Fin n) (hinj : ∀ e e', R e = R e' → C e = C e' → e = e') (c : Fin n) :
    ∑ r, adj R C c r = ∑ _e ∈ into C c, (1 : EReal) := by
  rw [← adj_sum R C hinj c fun _ => 1]
  exact Finset.sum_congr rfl fun r _ => (mul_one _).symm

/-- That many ones. -/
theorem sum_ones {ι : Type} (s : Finset ι) : ∑ _e ∈ s, (1 : EReal) = ((s.card : ℝ) : EReal) := by
  classical
  induction s using Finset.induction_on with
  | empty => simp
  | insert a s ha ih =>
    rw [Finset.sum_insert ha, ih, Finset.card_insert_of_notMem ha, Nat.cast_add, Nat.cast_one, EReal.coe_add, add_comm]
    rfl

/-- A nonnegative real factor goes through a sum. -/
theorem sum_mul_real {ι : Type} (s : Finset ι) (g : ι → EReal) (a : ℝ) (ha : 0 ≤ a) :
    (∑ e ∈ s, g e) * (a : EReal) = ∑ e ∈ s, g e * (a : EReal) := by
  classical
  induction s using Finset.induction_on with
  | empty => simp
  | insert b s hb ih =>
    rw [Finset.sum_insert hb, Finset.sum_insert hb,
      EReal.right_distrib_of_nonneg_of_ne_top (EReal.coe_nonneg.mpr ha) (EReal.coe_ne_top a), ih]

/-- The pattern of −1/2. -/
theorem ofBits_neg_half : Ideal.ofBits .f32 0xBF000000#32 = ((-(1 / 2 : ℝ) : ℝ) : EReal) := by
  simp [Ideal.ofBits, Ideal.ieee, -EReal.coe_mul, -EReal.coe_neg]; norm_num

/-- The inverse square root of a degree, zero for no edge. -/
def isq (d : ℕ) : ℝ := if 0 < d then (Real.sqrt d)⁻¹ else 0

theorem isq_nonneg (d : ℕ) : 0 ≤ isq d := by
  unfold isq; split
  · exact inv_nonneg.mpr (Real.sqrt_nonneg _)
  · exact le_rfl

/-- As the kernel computes it, and as the reference does. -/
theorem isq_rsqrt (d : ℕ) : (if 0 < ((d : ℝ) : EReal) then Ideal.rsqrt ((d : ℝ) : EReal) else 0) = (isq d : EReal) := by
  unfold isq
  by_cases h : 0 < d
  · have h' : (0 : ℝ) < d := Nat.cast_pos.mpr h
    rw [if_pos (EReal.coe_pos.mpr h'), if_pos h]
    show (if (d : ℝ) < 0 then (⊥ : EReal) else if (d : ℝ) = 0 then ⊤ else (((Real.sqrt d)⁻¹ : ℝ) : EReal)) = _
    rw [if_neg h'.not_gt, if_neg h'.ne']
  · obtain rfl : d = 0 := by omega
    simp

theorem isq_pow (d : ℕ) : (if 0 < ((d : ℝ) : EReal) then Ideal.pow ((d : ℝ) : EReal) (Ideal.ofBits .f32 0xBF000000#32) else 0) = (isq d : EReal) := by
  unfold isq
  by_cases h : 0 < d
  · have h' : (0 : ℝ) < d := Nat.cast_pos.mpr h
    rw [if_pos (EReal.coe_pos.mpr h'), if_pos h, ofBits_neg_half]
    show ((Real.rpow (d : ℝ) (-(1 / 2)) : ℝ) : EReal) = _
    rw [Real.sqrt_eq_rpow]
    exact congrArg _ (Real.rpow_neg h'.le _)
  · obtain rfl : d = 0 := by omega
    simp

/-- THE EQUATION: the adjacency row against the scaled column, scaled again, is the sum over the edges that end at `c` of
    the edge's weight times its source's entry. -/
theorem agg_eq (R C : Fin k → Fin n) (hinj : ∀ e e', R e = R e' → C e = C e' → e = e') (c : Fin n) (D : Fin n → ℝ) (hD : ∀ c, 0 ≤ D c) (L : Fin n → EReal) :
    (∑ r, adj R C c r * (L r * (D r : EReal))) * (D c : EReal) = ∑ e ∈ into C c, ((D (R e) : EReal) * (D (C e) : EReal)) * L (R e) := by
  rw [adj_sum R C hinj c, sum_mul_real _ _ _ (hD c)]
  refine Finset.sum_congr rfl fun e he => ?_
  rw [(Finset.mem_filter.mp he).2]
  ac_rfl

end Cert.Proof.Graph

end
-- ==== Proof.Ref.lean ====
/-
  The reference's result, stage by stage over the extended reals: the scales of the two weights, the linear map, the
  degrees, their inverse square roots, the sum over the edges, the activation, the second linear map. Each stage is named as
  the reference composes it (`res_eq`) and read at an index.
-/
module

public import proofs.«01_k».proof.Defs
public import proofs.«01_k».proof.Proof.Gen.ReferenceIdeal
public import proofs.«01_k».proof.Proof.Gen.ReferenceIdeal.Run
public import proofs.«01_k».proof.Proof.Graph
public import Idealize.ShloMosaic.Lib.Pointwise
public import Idealize.ShloMosaic.Lib.Routing.OpsPair
public import Idealize.ShloMosaic.Lib.Tactic.WordOmega

@[expose] public section

set_option maxRecDepth 16384

noncomputable section

namespace Cert.Proof.Ref

open Cert.ReferenceIdeal Cert.ReferenceIdeal.Gen
open Idealize.ShloMosaic Idealize.ShloMosaic.TcCoe Idealize.SL.Sem

/-! ## The stages -/

/-- The factor of each column of the first weight. -/
def s1 (w1 : FVec Ideal S256x1000 .f32) : FVec Ideal S1000 .f32 :=
  select (cmpf .ogt (Host.sqrt (Host.reduceAdd (mulf w1 w1) (constant S_ .f32 0x00000000#32) reducesTo_S256x1000_S1000_d0 h_S_)) (broadcastInDim S1000 ![] bcast_S_S1000 (constant S_ .f32 0x3F800000#32)))
    (Host.divf (broadcastInDim S1000 ![] bcast_S_S1000 (constant S_ .f32 0x3F800000#32))
      (addf (Host.sqrt (Host.reduceAdd (mulf w1 w1) (constant S_ .f32 0x00000000#32) reducesTo_S256x1000_S1000_d0 h_S_)) (broadcastInDim S1000 ![] bcast_S_S1000 (constant S_ .f32 0x33D6BF95#32))))
    (broadcastInDim S1000 ![] bcast_S_S1000 (id (constant S_ .f32 0x3F800000#32)))

/-- The factor of each row of the second. -/
def s2 (w2 : FVec Ideal S64x256 .f32) : FVec Ideal S64 .f32 :=
  select (cmpf .ogt (Host.sqrt (Host.reduceAdd (mulf w2 w2) (constant S_ .f32 0x00000000#32) reducesTo_S64x256_S64_d1 h_S_)) (broadcastInDim S64 ![] bcast_S_S64 (constant S_ .f32 0x3F000000#32)))
    (Host.divf (broadcastInDim S64 ![] bcast_S_S64 (constant S_ .f32 0x3F000000#32))
      (addf (Host.sqrt (Host.reduceAdd (mulf w2 w2) (constant S_ .f32 0x00000000#32) reducesTo_S64x256_S64_d1 h_S_)) (broadcastInDim S64 ![] bcast_S_S64 (constant S_ .f32 0x33D6BF95#32))))
    (broadcastInDim S64 ![] bcast_S_S64 (id (constant S_ .f32 0x3F800000#32)))

/-- The first linear map. -/
def lin (x : FVec Ideal S22x1000 .f32) (w1 : FVec Ideal S256x1000 .f32) : FVec Ideal S22x256 .f32 :=
  Host.dotGeneral dot_S22x1000_S1000x256_S22x256_1_0_0_1_n_n none x
    (transpose S1000x256 [1, 0] (mulf w1 (broadcastInDim S256x1000 ![0, 1] bcast_S1x1000_S256x1000_0_1 (broadcastInDim S1x1000 ![1] bcast_S1000_S1x1000_1 (s1 w1)))) transposes_S256x1000_S1000x256_1_0)

/-- A list of indices, a negative one counted from the end, as a column. -/
def wrap (v : IVec S144 32) : IVec S144x1 32 :=
  broadcastInDim S144x1 ![0] bcast_S144_S144x1_0
    (select (cmpi .slt v (broadcastInDim S144 ![] bcast_S_S144 (constantI S_ 32 0#32))) (addi v (broadcastInDim S144 ![] bcast_S_S144 (constantI S_ 32 22#32))) v)

/-- The edges' sources and targets. -/
def src (E : IVec S2x144 32) : IVec S144x1 32 :=
  wrap (shapeCast S144 (extractStridedSlice S1x144 ![0, 0] E slices_S2x144_S1x144_0_0) shapeCasts_S1x144_S144)
def tgt (E : IVec S2x144 32) : IVec S144x1 32 :=
  wrap (shapeCast S144 (extractStridedSlice S1x144 ![1, 0] E slices_S2x144_S1x144_1_0) shapeCasts_S1x144_S144)

/-- How many edges end at each electrode. -/
def deg (E : IVec S2x144 32) : FVec Ideal S22 .f32 :=
  Host.scatterAdd scatter_S22_S144x1_S144_n_0_0_1 (broadcastInDim S22 ![] bcast_S_S22 (constant S_ .f32 0x00000000#32)) (tgt E)
    (broadcastInDim S144 ![] bcast_S_S144 (constant S_ .f32 0x3F800000#32))

/-- The inverse square roots of the degrees. -/
def dinv (E : IVec S2x144 32) : FVec Ideal S22 .f32 :=
  select (cmpf .ogt (deg E) (broadcastInDim S22 ![] bcast_S_S22 (constant S_ .f32 0x00000000#32)))
    (Host.powf (deg E) (broadcastInDim S22 ![] bcast_S_S22 (constant S_ .f32 0xBF000000#32)))
    (broadcastInDim S22 ![] bcast_S_S22 (id (constant S_ .f32 0x00000000#32)))

/-- The weight of each edge. -/
def nrm (E : IVec S2x144 32) : FVec Ideal S144 .f32 :=
  mulf (Host.gather gather_S22_S144x1_S144_n_0_n_n_0_1_1 (dinv E) (src E)) (Host.gather gather_S22_S144x1_S144_n_0_n_n_0_1_1 (dinv E) (tgt E))

/-- What each edge carries. -/
def msg (x : FVec Ideal S22x1000 .f32) (w1 : FVec Ideal S256x1000 .f32) (E : IVec S2x144 32) : FVec Ideal S144x256 .f32 :=
  mulf (broadcastInDim S144x256 ![0, 1] bcast_S144x1_S144x256_0_1 (broadcastInDim S144x1 ![0] bcast_S144_S144x1_0 (nrm E)))
    (Host.gather gather_S22x256_S144x1_S144x256_1_0_n_n_0_1_1256 (lin x w1) (src E))

/-- The sum over the edges. -/
def agg (x : FVec Ideal S22x1000 .f32) (w1 : FVec Ideal S256x1000 .f32) (E : IVec S2x144 32) : FVec Ideal S22x256 .f32 :=
  Host.scatterAdd scatter_S22x256_S144x1_S144x256_1_0_0_1 (broadcastInDim S22x256 ![] bcast_S_S22x256 (constant S_ .f32 0x00000000#32)) (tgt E) (msg x w1 E)

/-- With the first bias. -/
def pre (x : FVec Ideal S22x1000 .f32) (w1 : FVec Ideal S256x1000 .f32) (b1 : FVec Ideal S256 .f32) (E : IVec S2x144 32) : FVec Ideal S22x256 .f32 :=
  addf (agg x w1 E) (broadcastInDim S22x256 ![0, 1] bcast_S1x256_S22x256_0_1 (broadcastInDim S1x256 ![1] bcast_S256_S1x256_1 b1))

/-- The activation. -/
def elu (a : FVec Ideal S22x256 .f32) : FVec Ideal S22x256 .f32 :=
  select (cmpf .ogt a (broadcastInDim S22x256 ![] bcast_S_S22x256 (constant S_ .f32 0x00000000#32))) a
    (mulf (broadcastInDim S22x256 ![] bcast_S_S22x256 (constant S_ .f32 0x3F800000#32))
      (Host.expm1 (select (cmpf .ogt a (broadcastInDim S22x256 ![] bcast_S_S22x256 (constant S_ .f32 0x00000000#32)))
        (broadcastInDim S22x256 ![] bcast_S_S22x256 (id (constant S_ .f32 0x00000000#32))) a)))

/-- The result. -/
def out (x : FVec Ideal S22x1000 .f32) (w1 : FVec Ideal S256x1000 .f32) (b1 : FVec Ideal S256 .f32) (w2 : FVec Ideal S64x256 .f32) (b2 : FVec Ideal S64 .f32)
    (E : IVec S2x144 32) : FVec Ideal S22x64 .f32 :=
  addf (Host.dotGeneral dot_S22x256_S256x64_S22x64_1_0_0_1_n_n none (elu (pre x w1 b1 E))
      (transpose S256x64 [1, 0] (mulf w2 (broadcastInDim S64x256 ![0, 1] bcast_S64x1_S64x256_0_1 (broadcastInDim S64x1 ![0] bcast_S64_S64x1_0 (s2 w2)))) transposes_S64x256_S256x64_1_0))
    (broadcastInDim S22x64 ![0, 1] bcast_S1x64_S22x64_0_1 (broadcastInDim S1x64 ![1] bcast_S64_S1x64_1 b2))

/-- The generated run's result is that. -/
theorem res_eq (m : (ℓ : Loc nD τ sig) → Buf (Elt Ideal) ℓ) (c : Dev nD) :
    Cert.ReferenceIdeal.Value.res_main_v87 m c
      = out (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) := rfl

/-! ## Indices in range -/

/-- A word below 22 is not negative, so the wrap leaves it. -/
theorem wrap_apply (v : IVec S144 32) (k : Fin 144) (h : (v (ix1 k)).toNat < 22) : wrap v (ix2 k 0) = v (ix1 k) := by
  pointwise [wrap]
  apply BitVec.eq_of_toNat_eq
  word_omega

theorem src_apply (E : IVec S2x144 32) (hE : ∀ x, (E x).toNat < 22) (k : Fin 144) : src E (ix2 k 0) = E (ix2 0 k) := by
  have h : shapeCast S144 (extractStridedSlice S1x144 ![0, 0] E slices_S2x144_S1x144_0_0) shapeCasts_S1x144_S144 (ix1 k) = E (ix2 0 k) := by pointwise
  unfold src
  rw [wrap_apply _ _ (h ▸ hE _), h]

theorem tgt_apply (E : IVec S2x144 32) (hE : ∀ x, (E x).toNat < 22) (k : Fin 144) : tgt E (ix2 k 0) = E (ix2 1 k) := by
  have h : shapeCast S144 (extractStridedSlice S1x144 ![1, 0] E slices_S2x144_S1x144_1_0) shapeCasts_S1x144_S144 (ix1 k) = E (ix2 1 k) := by pointwise
  unfold tgt
  rw [wrap_apply _ _ (h ▸ hE _), h]

/-! ## The gathers and the scatters at an index -/

/-- Where a word below 22 is as a signed number. -/
theorem toInt_of_lt (w : BitVec 32) (h : w.toNat < 22) : w.toInt = (w.toNat : ℤ) := by
  rw [BitVec.toInt_eq_toNat_cond, if_pos (by omega)]

/-- An entry taken out of a vector. -/
theorem take_vec (v : FVec Ideal S22 .f32) (idx : IVec S144x1 32) (e : Fin 144) (r : Fin 22) (h : (idx (ix2 e 0)).toNat = r.val) :
    Host.gather gather_S22_S144x1_S144_n_0_n_n_0_1_1 v idx (ix1 e) = v (ix1 r) := by
  unfold Host.gather
  congr 1
  funext a
  apply Fin.ext
  match a with
  | ⟨0, _⟩ =>
    have hs : gather_S22_S144x1_S144_n_0_n_n_0_1_1.siIdx (ix1 e) ⟨0, by decide⟩ = ix2 e 0 := by
      funext b; match b with
      | ⟨0, _⟩ => rfl
      | ⟨1, _⟩ => rfl
    show min (idx (gather_S22_S144x1_S144_n_0_n_n_0_1_1.siIdx (ix1 e) ⟨0, by decide⟩)).toInt.toNat 21 + 0 + 0 = r.val
    rw [hs, toInt_of_lt _ (by omega)]
    omega

/-- A row taken out of an array. -/
theorem take_row (v : FVec Ideal S22x256 .f32) (idx : IVec S144x1 32) (e : Fin 144) (f : Fin 256) (r : Fin 22) (h : (idx (ix2 e 0)).toNat = r.val) :
    Host.gather gather_S22x256_S144x1_S144x256_1_0_n_n_0_1_1256 v idx (ix2 e f) = v (ix2 r f) := by
  unfold Host.gather
  congr 1
  funext a
  apply Fin.ext
  match a with
  | ⟨0, _⟩ =>
    have hs : gather_S22x256_S144x1_S144x256_1_0_n_n_0_1_1256.siIdx (ix2 e f) ⟨0, by decide⟩ = ix2 e 0 := by
      funext b; match b with
      | ⟨0, _⟩ => rfl
      | ⟨1, _⟩ => rfl
    show min (idx (gather_S22x256_S144x1_S144x256_1_0_n_n_0_1_1256.siIdx (ix2 e f) ⟨0, by decide⟩)).toInt.toNat 21 + 0 + 0 = r.val
    rw [hs, toInt_of_lt _ (by omega)]
    omega
  | ⟨1, _⟩ => exact Nat.zero_add _

/-- Where an update of the vector lands. -/
theorem lands_vec (idx : IVec S144x1 32) (e : Fin 144) (c : Fin 22) (h : (idx (ix2 e 0)).toNat < 22) :
    scatter_S22_S144x1_S144_n_0_0_1.resultIdx? (ix1 e) idx = some (ix1 c) ↔ (idx (ix2 e 0)).toNat = c.val := by
  rw [Routing.resultIdx?_eq_some]
  have hs : scatter_S22_S144x1_S144_n_0_0_1.siIdx (ix1 e) ⟨0, by decide⟩ = ix2 e 0 := by
    funext b; match b with
    | ⟨0, _⟩ => rfl
    | ⟨1, _⟩ => rfl
  have h0 : scatter_S22_S144x1_S144_n_0_0_1.start (ix1 e) idx 0 + ((scatter_S22_S144x1_S144_n_0_0_1.window (ix1 e) 0 : ℕ) : ℤ) = ((idx (ix2 e 0)).toNat : ℤ) := by
    show (idx (scatter_S22_S144x1_S144_n_0_0_1.siIdx (ix1 e) ⟨0, by decide⟩)).toInt + ((0 : ℕ) : ℤ) = _
    rw [hs, toInt_of_lt _ h]
    omega
  constructor
  · intro q
    have := (h0.symm.trans (q 0))
    exact Int.ofNat.inj this
  · intro q a
    match a with
    | ⟨0, _⟩ => exact h0.trans (congrArg Int.ofNat q)

/-- Where an update of the array lands: in its own column. -/
theorem lands_row (idx : IVec S144x1 32) (e : Fin 144) (f : Fin 256) (c : Fin 22) (g : Fin 256) (h : (idx (ix2 e 0)).toNat < 22) :
    scatter_S22x256_S144x1_S144x256_1_0_0_1.resultIdx? (ix2 e f) idx = some (ix2 c g) ↔ (idx (ix2 e 0)).toNat = c.val ∧ f = g := by
  rw [Routing.resultIdx?_eq_some]
  have hs : scatter_S22x256_S144x1_S144x256_1_0_0_1.siIdx (ix2 e f) ⟨0, by decide⟩ = ix2 e 0 := by
    funext b; match b with
    | ⟨0, _⟩ => rfl
    | ⟨1, _⟩ => rfl
  have h0 : scatter_S22x256_S144x1_S144x256_1_0_0_1.start (ix2 e f) idx 0 + ((scatter_S22x256_S144x1_S144x256_1_0_0_1.window (ix2 e f) 0 : ℕ) : ℤ) = ((idx (ix2 e 0)).toNat : ℤ) := by
    show (idx (scatter_S22x256_S144x1_S144x256_1_0_0_1.siIdx (ix2 e f) ⟨0, by decide⟩)).toInt + ((0 : ℕ) : ℤ) = _
    rw [hs, toInt_of_lt _ h]
    omega
  have h1 : scatter_S22x256_S144x1_S144x256_1_0_0_1.start (ix2 e f) idx 1 + ((scatter_S22x256_S144x1_S144x256_1_0_0_1.window (ix2 e f) 1 : ℕ) : ℤ) = (f.val : ℤ) := by
    show (0 : ℤ) + (f.val : ℤ) = _
    omega
  constructor
  · intro q
    exact ⟨Int.ofNat.inj (h0.symm.trans (q 0)), Fin.ext (Int.ofNat.inj (h1.symm.trans (q 1)))⟩
  · rintro ⟨q, rfl⟩ a
    match a with
    | ⟨0, _⟩ => exact h0.trans (congrArg Int.ofNat q)
    | ⟨1, _⟩ => exact h1

/-! ## The stages at an index -/

open Graph

/-- The source and the target of an edge, as electrodes. -/
def R (E : IVec S2x144 32) (hE : ∀ x, (E x).toNat < 22) (e : Fin 144) : Fin 22 := ⟨(E (ix2 0 e)).toNat, hE _⟩
def C (E : IVec S2x144 32) (hE : ∀ x, (E x).toNat < 22) (e : Fin 144) : Fin 22 := ⟨(E (ix2 1 e)).toNat, hE _⟩

variable (E : IVec S2x144 32) (hE : ∀ x, (E x).toNat < 22)

/-- An edge's two words are the edge's two electrodes. -/
theorem word_of_R (e e' : Fin 144) (h : R E hE e = R E hE e') : E (ix2 0 e) = E (ix2 0 e') := by
  have k : (R E hE e).val = (R E hE e').val := congrArg Fin.val h
  exact BitVec.eq_of_toNat_eq k
theorem word_of_C (e e' : Fin 144) (h : C E hE e = C E hE e') : E (ix2 1 e) = E (ix2 1 e') := by
  have k : (C E hE e).val = (C E hE e').val := congrArg Fin.val h
  exact BitVec.eq_of_toNat_eq k

/-- The degree is the number of edges that end there. -/
theorem deg_apply (c : Fin 22) : deg E (ix1 c) = (((into (C E hE) c).card : ℝ) : EReal) := by
  rw [← sum_ones]
  have h0 : broadcastInDim S22 ![] bcast_S_S22 (constant (F := Ideal) S_ .f32 0x00000000#32) (ix1 c) = (0 : EReal) := by pointwise
  have h1 : ∀ e : Fin 144, broadcastInDim S144 ![] bcast_S_S144 (constant (F := Ideal) S_ .f32 0x3F800000#32) (ix1 e) = (1 : EReal) := by intro e; pointwise
  show broadcastInDim S22 ![] bcast_S_S22 (constant (F := Ideal) S_ .f32 0x00000000#32) (ix1 c)
    + ∑ j ∈ Finset.univ.filter (fun j => scatter_S22_S144x1_S144_n_0_0_1.resultIdx? j (tgt E) = some (ix1 c)), broadcastInDim S144 ![] bcast_S_S144 (constant (F := Ideal) S_ .f32 0x3F800000#32) j = _
  rw [h0, zero_add, Finset.sum_filter, sum_idx1, Finset.sum_filter]
  refine Finset.sum_congr rfl fun e _ => ?_
  rw [h1]
  refine if_congr ?_ rfl rfl
  rw [lands_vec _ _ _ (by rw [tgt_apply E hE]; exact hE _), tgt_apply E hE]
  exact ⟨fun h => Fin.ext h, fun h => congrArg Fin.val h⟩

/-- The inverse square roots. -/
theorem dinv_apply (c : Fin 22) : dinv E (ix1 c) = (isq (into (C E hE) c).card : EReal) := by
  rw [← isq_pow, ← deg_apply E hE]
  pointwise [dinv, id_eq]

/-- An edge's weight. -/
theorem nrm_apply (e : Fin 144) : nrm E (ix1 e) = (isq (into (C E hE) (R E hE e)).card : EReal) * (isq (into (C E hE) (C E hE e)).card : EReal) := by
  show Host.gather gather_S22_S144x1_S144_n_0_n_n_0_1_1 (dinv E) (src E) (ix1 e) * Host.gather gather_S22_S144x1_S144_n_0_n_n_0_1_1 (dinv E) (tgt E) (ix1 e) = _
  rw [take_vec _ _ _ (R E hE e) (by rw [src_apply E hE]; rfl), take_vec _ _ _ (C E hE e) (by rw [tgt_apply E hE]; rfl), dinv_apply E hE, dinv_apply E hE]

/-- What an edge carries. -/
theorem msg_apply (x : FVec Ideal S22x1000 .f32) (w1 : FVec Ideal S256x1000 .f32) (e : Fin 144) (f : Fin 256) :
    msg x w1 E (ix2 e f) = ((isq (into (C E hE) (R E hE e)).card : EReal) * (isq (into (C E hE) (C E hE e)).card : EReal)) * lin x w1 (ix2 (R E hE e) f) := by
  have h : broadcastInDim S144x256 ![0, 1] bcast_S144x1_S144x256_0_1 (broadcastInDim S144x1 ![0] bcast_S144_S144x1_0 (nrm E)) (ix2 e f) = nrm E (ix1 e) := by pointwise
  show broadcastInDim S144x256 ![0, 1] bcast_S144x1_S144x256_0_1 (broadcastInDim S144x1 ![0] bcast_S144_S144x1_0 (nrm E)) (ix2 e f)
    * Host.gather gather_S22x256_S144x1_S144x256_1_0_n_n_0_1_1256 (lin x w1) (src E) (ix2 e f) = _
  rw [h, nrm_apply E hE, take_row _ _ _ _ (R E hE e) (by rw [src_apply E hE]; rfl)]

/-- The sum over the edges that end at `c`. -/
theorem agg_apply (x : FVec Ideal S22x1000 .f32) (w1 : FVec Ideal S256x1000 .f32) (c : Fin 22) (f : Fin 256) :
    agg x w1 E (ix2 c f)
      = ∑ e ∈ into (C E hE) c, ((isq (into (C E hE) (R E hE e)).card : EReal) * (isq (into (C E hE) (C E hE e)).card : EReal)) * lin x w1 (ix2 (R E hE e) f) := by
  have h0 : broadcastInDim S22x256 ![] bcast_S_S22x256 (constant (F := Ideal) S_ .f32 0x00000000#32) (ix2 c f) = (0 : EReal) := by pointwise
  show broadcastInDim S22x256 ![] bcast_S_S22x256 (constant (F := Ideal) S_ .f32 0x00000000#32) (ix2 c f)
    + ∑ j ∈ Finset.univ.filter (fun j => scatter_S22x256_S144x1_S144x256_1_0_0_1.resultIdx? j (tgt E) = some (ix2 c f)), msg x w1 E j = _
  rw [h0, zero_add, Finset.sum_filter, sum_idx2, Finset.sum_filter]
  refine Finset.sum_congr rfl fun e _ => ?_
  have hl : ∀ g : Fin 256, (if scatter_S22x256_S144x1_S144x256_1_0_0_1.resultIdx? (ix2 e g) (tgt E) = some (ix2 c f) then msg x w1 E (ix2 e g) else 0)
      = if g = f then (if C E hE e = c then msg x w1 E (ix2 e f) else 0) else 0 := by
    intro g
    have hi := lands_row (tgt E) e g c f (by rw [tgt_apply E hE]; exact hE _)
    rw [tgt_apply E hE] at hi
    by_cases hg : g = f
    · subst hg
      rw [if_pos rfl]
      refine if_congr (hi.trans ⟨fun h => Fin.ext h.1, fun h => ⟨congrArg Fin.val h, rfl⟩⟩) rfl rfl
    · rw [if_neg hg, if_neg fun h => hg (hi.mp h).2]
  rw [Finset.sum_congr rfl fun g _ => hl g, Finset.sum_ite_eq' Finset.univ f, if_pos (Finset.mem_univ f), msg_apply E hE]

/-! ## The two dense layers at an index -/

/-- What a column of the first weight is multiplied by: one over its norm where the norm passes one. -/
def scale1 (w1 : FVec Ideal S256x1000 .f32) (k : Fin 1000) : EReal :=
  if 1 < Ideal.sqrt (∑ g, w1 (ix2 g k) * w1 (ix2 g k))
    then Ideal.div 1 (Ideal.sqrt (∑ g, w1 (ix2 g k) * w1 (ix2 g k)) + Ideal.ofBits .f32 0x33D6BF95#32) else 1

/-- What a row of the second weight is multiplied by: a half over its norm where the norm passes a half. -/
def scale2 (w2 : FVec Ideal S64x256 .f32) (o : Fin 64) : EReal :=
  if Ideal.ofBits .f32 0x3F000000#32 < Ideal.sqrt (∑ k, w2 (ix2 o k) * w2 (ix2 o k))
    then Ideal.div (Ideal.ofBits .f32 0x3F000000#32) (Ideal.sqrt (∑ k, w2 (ix2 o k) * w2 (ix2 o k)) + Ideal.ofBits .f32 0x33D6BF95#32) else 1

/-- The first linear layer. -/
theorem lin_apply (x : FVec Ideal S22x1000 .f32) (w1 : FVec Ideal S256x1000 .f32) (i : Fin 22) (f : Fin 256) :
    lin x w1 (ix2 i f) = ∑ k, x (ix2 i k) * (w1 (ix2 f k) * scale1 w1 k) := by
  unfold scale1
  pointwise [lin, s1, id_eq]

/-- The exponential linear unit on one value. -/
def elu1 (a : EReal) : EReal := if 0 < a then a else Ideal.exp (if 0 < a then 0 else a) - 1

/-- The second linear layer over the activations. -/
theorem out_apply (x : FVec Ideal S22x1000 .f32) (w1 : FVec Ideal S256x1000 .f32) (b1 : FVec Ideal S256 .f32)
    (w2 : FVec Ideal S64x256 .f32) (b2 : FVec Ideal S64 .f32) (E : IVec S2x144 32) (i : Fin 22) (o : Fin 64) :
    out x w1 b1 w2 b2 E (ix2 i o)
      = ∑ k, elu1 (agg x w1 E (ix2 i k) + b1 (ix1 k)) * (w2 (ix2 o k) * scale2 w2 o) + b2 (ix1 o) := by
  unfold scale2 elu1
  pointwise [out, elu, s2, pre, id_eq]

end Cert.Proof.Ref

end
-- ==== Proof.Ker.lean ====
/-
  The two programs compute the same array over the extended reals: the kernel's result at an adjacency array built from an
  edge list with no repeated edge is the reference's result at that edge list.
-/
module

public import proofs.«01_k».proof.Proof.Dense
public import proofs.«01_k».proof.Proof.Ref

@[expose] public section

set_option maxRecDepth 16384

noncomputable section

namespace Cert.Proof.Ker

open Cert.KernelIdeal Cert.KernelIdeal.Gen Cert.Proof.Dense Cert.Proof.Graph
open Idealize.ShloMosaic

/-- The inverse square root of a row's sum, zero where the row is empty. -/
def rs (a : S22x22.Idx → Ideal .f32) (i : Fin 22) : EReal := if 0 < ∑ r, a (ix2 i r) then Ideal.rsqrt (∑ r, a (ix2 i r)) else 0

/-- The first layer at an index, before the activation. -/
theorem pre_apply (a : S22x22.Idx → Ideal .f32) (x : S22x1000.Idx → Ideal .f32) (w1 : S256x1000.Idx → Ideal .f32) (b1 : S1x256.Idx → Ideal .f32) (i : Fin 22) (f : Fin 256) :
    k1_pay2 (F := Ideal) w1 x a b1 (ix2 i f)
      = (∑ r, a (ix2 i r) * ((∑ k, x (ix2 r k) * Ref.scale1 w1 k * w1 (ix2 f k)) * rs a r)) * rs a i + b1 (ix2 0 f) := by
  unfold Ref.scale1 rs
  pointwise [k1_pay2, id_eq]

/-- The activation on one value. -/
def elu1 (a : EReal) : EReal := if 0 < a then a else Ideal.exp (min a 0) - 1

/-- The call's result at an index. -/
theorem outv_apply (a : S22x22.Idx → Ideal .f32) (x : S22x1000.Idx → Ideal .f32) (w1 : S256x1000.Idx → Ideal .f32) (b1 : S1x256.Idx → Ideal .f32)
    (w2 : S64x256.Idx → Ideal .f32) (b2 : S1x64.Idx → Ideal .f32) (i : Fin 22) (o : Fin 64) :
    outv a x w1 b1 w2 b2 (ix2 i o)
      = ∑ k, elu1 (k1_pay2 (F := Ideal) w1 x a b1 (ix2 i k)) * (w2 (ix2 o k) * Ref.scale2 w2 o) + b2 (ix2 0 o) := by
  unfold Ref.scale2 elu1
  pointwise [outv, k1_pay1, k1_pay3, k1_pay4, id_eq]

/-- The two spellings of the activation agree. -/
theorem elu1_eq (a : EReal) : elu1 a = Ref.elu1 a := by
  unfold elu1 Ref.elu1
  by_cases h : 0 < a
  · rw [if_pos h, if_pos h]
  · rw [if_neg h, if_neg h, if_neg h, min_eq_left (not_lt.mp h)]

variable (E : S2x144.Idx → BitVec 32) (hE : ∀ x, (E x).toNat < 22)

/-- The adjacency array over the extended reals. -/
theorem adj_apply (c r : Fin 22) : Adj.adj (F := Ideal) E (ix2 c r) = Graph.adj (Ref.R E hE) (Ref.C E hE) c r := by
  unfold Graph.adj Adj.adj Adj.adjN
  rw [show (Scalar.ofBits .f32 0x3F800000#32 : Ideal .f32) = (1 : EReal) from by pointwise,
    show (Scalar.ofBits .f32 0x00000000#32 : Ideal .f32) = (0 : EReal) from by pointwise]
  have h : (∃ e : Fin 144, e.val < 144 ∧ (E (ix2 0 e)).toNat = r.val ∧ (E (ix2 1 e)).toNat = c.val) ↔ ∃ e, Ref.R E hE e = r ∧ Ref.C E hE e = c :=
    exists_congr fun e => ⟨fun h => ⟨Fin.ext h.2.1, Fin.ext h.2.2⟩, fun h => ⟨e.isLt, congrArg Fin.val h.1, congrArg Fin.val h.2⟩⟩
  by_cases hx : ∃ e, Ref.R E hE e = r ∧ Ref.C E hE e = c
  · rw [if_pos hx]; exact if_pos (h.mpr hx)
  · rw [if_neg hx]; exact if_neg fun k => hx (h.mp k)

variable (hinj : ∀ e e', Ref.R E hE e = Ref.R E hE e' → Ref.C E hE e = Ref.C E hE e' → e = e')

include hinj in
/-- A row's inverse square root is the node's. -/
theorem rs_adj (i : Fin 22) : rs (Adj.adj (F := Ideal) E) i = (isq (into (Ref.C E hE) i).card : EReal) := by
  have h : ∑ r, Adj.adj (F := Ideal) E (ix2 i r) = (((into (Ref.C E hE) i).card : ℝ) : EReal) := by
    rw [← sum_ones, ← adj_row (Ref.R E hE) (Ref.C E hE) hinj i]
    exact Finset.sum_congr rfl fun r _ => adj_apply E hE i r
  unfold rs
  rw [h, isq_rsqrt]

include hinj in
/-- The first layer is the reference's. -/
theorem pre_eq (x : S22x1000.Idx → Ideal .f32) (w1 : S256x1000.Idx → Ideal .f32) (b1' : S1x256.Idx → Ideal .f32) (i : Fin 22) (f : Fin 256) :
    k1_pay2 (F := Ideal) w1 x (Adj.adj (F := Ideal) E) b1' (ix2 i f) = Ref.agg x w1 E (ix2 i f) + b1' (ix2 0 f) := by
  rw [pre_apply, Ref.agg_apply E hE, rs_adj E hE hinj,
    ← agg_eq (Ref.R E hE) (Ref.C E hE) hinj i (fun n => isq (into (Ref.C E hE) n).card) (fun n => isq_nonneg _) (fun n => Ref.lin x w1 (ix2 n f))]
  refine congrArg (fun t => t * (isq (into (Ref.C E hE) i).card : EReal) + b1' (ix2 0 f)) (Finset.sum_congr rfl fun r _ => ?_)
  rw [adj_apply E hE, rs_adj E hE hinj, Ref.lin_apply]
  refine congrArg (fun t => _ * (t * _)) (Finset.sum_congr rfl fun k _ => ?_)
  rw [mul_assoc, mul_comm (Ref.scale1 w1 k)]

include hinj in
/-- The kernel's array is the reference's. -/
theorem outv_eq (x : S22x1000.Idx → Ideal .f32) (w1 : S256x1000.Idx → Ideal .f32) (b1 : S256.Idx → Ideal .f32) (b1' : S1x256.Idx → Ideal .f32)
    (w2 : S64x256.Idx → Ideal .f32) (b2 : S64.Idx → Ideal .f32) (b2' : S1x64.Idx → Ideal .f32)
    (h1 : ∀ f, b1' (ix2 0 f) = b1 (ix1 f)) (h2 : ∀ o, b2' (ix2 0 o) = b2 (ix1 o)) :
    outv (Adj.adj (F := Ideal) E) x w1 b1' w2 b2' = Ref.out x w1 b1 w2 b2 E := by
  funext j
  obtain ⟨i, o, rfl⟩ : ∃ i o, j = ix2 i o := ⟨j 0, j 1, (ix2_eta j).symm⟩
  rw [outv_apply, Ref.out_apply, h2]
  refine congrArg (· + b2 (ix1 o)) (Finset.sum_congr rfl fun k _ => ?_)
  rw [elu1_eq, pre_eq E hE hinj, h1]

end Cert.Proof.Ker

end
-- ==== Proof.Value.lean ====
/-
  The algebraic claim: over the extended reals, from an edge list of words below 22 with no repeated edge, the kernel and the
  reference leave the same array.
-/
module

public import proofs.«01_k».proof.Proof.Frames
public import proofs.«01_k».proof.Proof.Ker

@[expose] public section

set_option maxRecDepth 16384

noncomputable section

namespace Cert.Proof

open Idealize.ShloMosaic Idealize.ShloMosaic.TcCoe Idealize.SL.Sem
open Cert.KernelIdeal Cert.KernelIdeal.Gen

variable (m : (ℓ : Loc nD τ sig) → Buf (Elt Ideal) ℓ) (d : Dev nD)

/-- The adjacency array where the TensorCore call reads it. -/
theorem VV_v0 : Run.VV m d main_v0 = Adj.adj (F := Ideal) (Adj.edges m d) := by
  unfold Run.VV Run.W3
  rw [(Run.op2 (F := Ideal)).result_of_not_mem _ (show Run.dr main_v0 ∉ ({Run.dr main_v2} : Finset (DevRef τ sig)) by decide),
    (Run.op1 (F := Ideal)).result_of_not_mem _ (show Run.dr main_v0 ∉ ({Run.dr main_v1} : Finset (DevRef τ sig)) by decide)]
  exact Function.update_self _ _ _

/-- The first bias there, as one row. -/
theorem VV_v1 (f : Fin 256) : (Run.VV m d main_v1 : S1x256.Idx → Ideal .f32) (ix2 0 f) = (m ((d : Thread nD τ).loc main_arg2) : S256.Idx → Ideal .f32) (ix1 f) := by
  have h : (Run.VV m d main_v1 : S1x256.Idx → Ideal .f32) = shapeCast S1x256 (m ((d : Thread nD τ).loc main_arg2) : S256.Idx → Ideal .f32) shapeCasts_S256_S1x256 := by
    unfold Run.VV Run.W3
    rw [(Run.op2 (F := Ideal)).result_of_not_mem _ (show Run.dr main_v1 ∉ ({Run.dr main_v2} : Finset (DevRef τ sig)) by decide)]
    refine (StableHlo.reshape_result main_arg2 main_v1 (rfl : (.f32 : EltTy) = .f32) shapeCasts_S256_S1x256 _ _ _).trans ?_
    rw [show Run.W1 m d (Run.dr main_arg2) = m ((d : Thread nD τ).loc main_arg2) from Function.update_of_ne (by decide) _ _]
    rfl
  rw [h]
  pointwise

/-- The second bias there, as one row. -/
theorem VV_v2 (o : Fin 64) : (Run.VV m d main_v2 : S1x64.Idx → Ideal .f32) (ix2 0 o) = (m ((d : Thread nD τ).loc main_arg4) : S64.Idx → Ideal .f32) (ix1 o) := by
  have h : (Run.VV m d main_v2 : S1x64.Idx → Ideal .f32) = shapeCast S1x64 (m ((d : Thread nD τ).loc main_arg4) : S64.Idx → Ideal .f32) shapeCasts_S64_S1x64 := by
    unfold Run.VV Run.W3
    refine (StableHlo.reshape_result main_arg4 main_v2 (rfl : (.f32 : EltTy) = .f32) shapeCasts_S64_S1x64 _ _ _).trans ?_
    rw [(Run.op1 (F := Ideal)).result_of_not_mem _ (show Run.dr main_arg4 ∉ ({Run.dr main_v1} : Finset (DevRef τ sig)) by decide),
      show Run.W1 m d (Run.dr main_arg4) = m ((d : Thread nD τ).loc main_arg4) from Function.update_of_ne (by decide) _ _]
    rfl
  rw [h]
  pointwise

/-- The kernel's result, from such an edge list, is the reference's at the same arguments. -/
theorem out_eq (hp : Cert.Pre_KernelIdeal_edge_list m) :
    Run.out m d = Ref.out (m ((d : Thread nD τ).loc main_arg0)) (m ((d : Thread nD τ).loc main_arg1)) (m ((d : Thread nD τ).loc main_arg2))
      (m ((d : Thread nD τ).loc main_arg3)) (m ((d : Thread nD τ).loc main_arg4)) (m ((d : Thread nD τ).loc main_arg5)) := by
  have hE : ∀ x, (Adj.edges m d x).toNat < 22 := fun x => Pre.edge_list_lt _ _ _ _ _ _ (hp d).1 x
  have hinj : ∀ e e', Ref.R (Adj.edges m d) hE e = Ref.R (Adj.edges m d) hE e' → Ref.C (Adj.edges m d) hE e = Ref.C (Adj.edges m d) hE e' → e = e' :=
    fun e e' h0 h1 => Pre.edge_list_inj _ _ _ _ _ _ (hp d).2 e e' (Ref.word_of_R _ hE e e' h0) (Ref.word_of_C _ hE e e' h1)
  have ha0 : Run.VV m d main_arg0 = m ((d : Thread nD τ).loc main_arg0) := Run.W3_arg m d main_arg0 (by decide) (by decide) (by decide)
  have ha1 : Run.VV m d main_arg1 = m ((d : Thread nD τ).loc main_arg1) := Run.W3_arg m d main_arg1 (by decide) (by decide) (by decide)
  have ha3 : Run.VV m d main_arg3 = m ((d : Thread nD τ).loc main_arg3) := Run.W3_arg m d main_arg3 (by decide) (by decide) (by decide)
  have h : Run.out m d = Dense.outv (Run.VV m d main_v0) (Run.VV m d main_arg0) (Run.VV m d main_arg1) (Run.VV m d main_v1) (Run.VV m d main_arg3) (Run.VV m d main_v2) := rfl
  rw [VV_v0, ha0, ha1, ha3] at h
  refine h.trans ?_
  generalize hv1 : Run.VV m d main_v1 = v1
  generalize hv2 : Run.VV m d main_v2 = v2
  refine Ker.outv_eq (Adj.edges m d) hE hinj _ _ _ _ _ _ _ (fun f => ?_) (fun o => ?_)
  · rw [← hv1]; exact VV_v1 m d f
  · rw [← hv2]; exact VV_v2 m d o

/-- The claim. -/
theorem algebraic : Cert.algebraic_KernelIdeal_ReferenceIdeal_pre_edge_list := fun m g m' g' hp hagree => by
  refine ⟨fun c => Run.out m c, ?_, ?_⟩
  · refine (θ_run Cert.KernelIdeal.defs _ _).mono (fun r h c => ?_) (Run.run_main m g fun d x => Pre.edge_list_lt _ _ _ _ _ _ (hp d).1 x)
    have k := (h.1 c).2
    exact ⟨(h.1 c).1, k _ (by simp), k _ (by simp), k _ (by simp), k _ (by simp), k _ (by simp), k _ (by simp)⟩
  · refine (θ_run Cert.ReferenceIdeal.defs _ _).mono (fun r h c => ⟨(h c).1.trans ?_, (h c).2⟩) (Cert.ReferenceIdeal.Value.run (F := Ideal) m' g')
    obtain ⟨h0, h1, h2, h3, h4, h5⟩ := hagree c
    rw [Ref.res_eq, h0, h1, h2, h3, h4, h5]
    exact (out_eq m c hp).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The claim: the frames (`Frames`), the preservation, the algebraic claim (`Value`). -/
theorem claim : Cert.Claim := ⟨Cert.Kernel.Gen.facts, Cert.KernelIdeal.Gen.facts, Cert.ReferenceIdeal.Gen.facts, Pre.facts_in_range, Pre.facts_edge_list,
  frame_kernel, frame_ideal, frame_ideal_edge_list, frame_reference, frame_reference_edge_list, trivial, algebraic⟩

end Cert.Proof

end
